-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S2x1024x64 : Shape := ⟨3, ![2, 1024, 64]⟩
abbrev S2x16384x64 : Shape := ⟨3, ![2, 16384, 64]⟩
abbrev S_ : Shape := ⟨0, ![]⟩

class Facts : Prop where
  bcast_S_S2x1024x64 : S_.BroadcastsInDim S2x1024x64 (![] : Fin 0 → Fin S2x1024x64.rank)
  reducesTo_S2x1024x64_S_d0_1_2 : S2x1024x64.ReducesTo [0, 1, 2] S_
  h_S_ : 0 < S_.numel
  bcast_S_S2x16384x64 : S_.BroadcastsInDim S2x16384x64 (![] : Fin 0 → Fin S2x16384x64.rank)
  reducesTo_S2x16384x64_S_d0_1_2 : S2x16384x64.ReducesTo [0, 1, 2] S_

variable [Facts]

def fn {F : FTy → Type} [FloatOps F] (main_arg0 : FVec F S2x1024x64 .f32) (main_arg1 : FVec F S2x16384x64 .f32) : IVec S_ 1 :=
  let main_v0 : FVec F S2x1024x64 .f32 := Host.absf main_arg0
  let main_cst : FVec F S_ .f32 := constant S_ .f32 0x7F800000#32
  let main_v1 : FVec F S2x1024x64 .f32 := broadcastInDim S2x1024x64 ![] bcast_S_S2x1024x64 main_cst
  let main_v2 : IVec S2x1024x64 1 := cmpf .olt main_v0 main_v1
  let main_c : IVec S_ 1 := constantI S_ 1 1#1
  let main_v3 : IVec S_ 1 := (fun x v => Host.reduce IntOp.andi x v reducesTo_S2x1024x64_S_d0_1_2 h_S_) main_v2 main_c
  let main_v4 : FVec F S2x16384x64 .f32 := Host.absf main_arg1
  let main_cst_0 : FVec F S_ .f32 := constant S_ .f32 0x7F800000#32
  let main_v5 : FVec F S2x16384x64 .f32 := broadcastInDim S2x16384x64 ![] bcast_S_S2x16384x64 main_cst_0
  let main_v6 : IVec S2x16384x64 1 := cmpf .olt main_v4 main_v5
  let main_c_1 : IVec S_ 1 := constantI S_ 1 1#1
  let main_v7 : IVec S_ 1 := (fun x v => Host.reduce IntOp.andi x v reducesTo_S2x16384x64_S_d0_1_2 h_S_) main_v6 main_c_1
  let main_v8 : IVec S_ 1 := andi main_v3 main_v7
  main_v8
-- ==== Kernel.lean ====
abbrev S2x1024x64 : Shape := ⟨3, ![2, 1024, 64]⟩
abbrev S2x16384x64 : Shape := ⟨3, ![2, 16384, 64]⟩
abbrev S2x1024x16 : Shape := ⟨3, ![2, 1024, 16]⟩
abbrev S1x128x64 : Shape := ⟨3, ![1, 128, 64]⟩
abbrev S1x16384x64 : Shape := ⟨3, ![1, 16384, 64]⟩
abbrev S1x128x16 : Shape := ⟨3, ![1, 128, 16]⟩
abbrev S16384x72 : Shape := ⟨2, ![16384, 72]⟩
abbrev S16384x64 : Shape := ⟨2, ![16384, 64]⟩
abbrev S16384 : Shape := ⟨1, ![16384]⟩
abbrev S16384x1 : Shape := ⟨2, ![16384, 1]⟩
abbrev S16384x6 : Shape := ⟨2, ![16384, 6]⟩
abbrev S128x64 : Shape := ⟨2, ![128, 64]⟩
abbrev S128 : Shape := ⟨1, ![128]⟩
abbrev S128x1 : Shape := ⟨2, ![128, 1]⟩
abbrev S128x6 : Shape := ⟨2, ![128, 6]⟩
abbrev S128x72 : Shape := ⟨2, ![128, 72]⟩
abbrev S16x128x128 : Shape := ⟨3, ![16, 128, 128]⟩
abbrev S16x4x128 : Shape := ⟨3, ![16, 4, 128]⟩
abbrev S2048x72 : Shape := ⟨2, ![2048, 72]⟩
abbrev S2048x128 : Shape := ⟨2, ![2048, 128]⟩
abbrev S16x128 : Shape := ⟨2, ![16, 128]⟩
abbrev S16x1x128 : Shape := ⟨3, ![16, 1, 128]⟩
abbrev S64x128 : Shape := ⟨2, ![64, 128]⟩
abbrev S512x128 : Shape := ⟨2, ![512, 128]⟩
abbrev S1x128 : Shape := ⟨2, ![1, 128]⟩
abbrev S128x16 : Shape := ⟨2, ![128, 16]⟩
abbrev S128x128 : Shape := ⟨2, ![128, 128]⟩
abbrev S1x128x128 : Shape := ⟨3, ![1, 128, 128]⟩
abbrev S1 : Shape := ⟨1, ![1]⟩
abbrev S1x1x1 : Shape := ⟨3, ![1, 1, 1]⟩
abbrev S16x16x128 : Shape := ⟨3, ![16, 16, 128]⟩
abbrev S256x128 : Shape := ⟨2, ![256, 128]⟩

abbrev nBuf : Space → Nat
  | .hbm => 4
  | .vmem => 9
  | .smem => 0
  | _ => 0

abbrev bufTy : (tb : Table) → Fin (tcTables nBuf tb) → BufTy
  | .hbm, ⟨0, _⟩ => ⟨S2x1024x64, .f32⟩
  | .hbm, ⟨1, _⟩ => ⟨S2x16384x64, .f32⟩
  | .hbm, ⟨2, _⟩ => ⟨S2x1024x16, .i32⟩
  | .hbm, ⟨3, _⟩ => ⟨S2x1024x16, .f32⟩
  | .local _ .vmem, ⟨0, _⟩ => ⟨S1x128x64, .f32⟩
  | .local _ .vmem, ⟨1, _⟩ => ⟨S1x128x64, .f32⟩
  | .local _ .vmem, ⟨2, _⟩ => ⟨S1x16384x64, .f32⟩
  | .local _ .vmem, ⟨3, _⟩ => ⟨S1x16384x64, .f32⟩
  | .local _ .vmem, ⟨4, _⟩ => ⟨S1x128x16, .i32⟩
  | .local _ .vmem, ⟨5, _⟩ => ⟨S1x128x16, .i32⟩
  | .local _ .vmem, ⟨6, _⟩ => ⟨S1x128x16, .f32⟩
  | .local _ .vmem, ⟨7, _⟩ => ⟨S1x128x16, .f32⟩
  | .local _ .vmem, ⟨8, _⟩ => ⟨S16384x72, .f32⟩
  | _, _ => ⟨S2x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x1024x64 : Shape := ⟨3, ![2, 1024, 64]⟩
abbrev S2x16384x64 : Shape := ⟨3, ![2, 16384, 64]⟩
abbrev S2x1024x1x64 : Shape := ⟨4, ![2, 1024, 1, 64]⟩
abbrev S2x1x16384x64 : Shape := ⟨4, ![2, 1, 16384, 64]⟩
abbrev S2x1024x16384x64 : Shape := ⟨4, ![2, 1024, 16384, 64]⟩
abbrev S_ : Shape := ⟨0, ![]⟩
abbrev S2x1024x16384 : Shape := ⟨3, ![2, 1024, 16384]⟩
abbrev S1024x16384 : Shape := ⟨2, ![1024, 16384]⟩
abbrev S2x1024x16384x1 : Shape := ⟨4, ![2, 1024, 16384, 1]⟩
abbrev S1 : Shape := ⟨1, ![1]⟩
abbrev S1x1x1x1 : Shape := ⟨4, ![1, 1, 1, 1]⟩
abbrev S2x1024x16 : Shape := ⟨3, ![2, 1024, 16]⟩

abbrev nBuf : Space → Nat
  | .hbm => 39
  | .vmem => 0
  | .smem => 0
  | _ => 0

abbrev bufTy : (tb : Table) → Fin (tcTables nBuf tb) → BufTy
  | .hbm, ⟨0, _⟩ => ⟨S2x1024x64, .f32⟩
  | .hbm, ⟨1, _⟩ => ⟨S2x16384x64, .f32⟩
  | .hbm, ⟨2, _⟩ => ⟨S2x1024x1x64, .f32⟩
  | .hbm, ⟨3, _⟩ => ⟨S2x1x16384x64, .f32⟩
  | .hbm, ⟨4, _⟩ => ⟨S2x1024x16384x64, .f32⟩
  | .hbm, ⟨5, _⟩ => ⟨S2x1024x16384x64, .f32⟩
  | .hbm, ⟨6, _⟩ => ⟨S2x1024x16384x64, .f32⟩
  | .hbm, ⟨7, _⟩ => ⟨S2x1024x16384x64, .f32⟩
  | .hbm, ⟨8, _⟩ => ⟨S_, .f32⟩
  | .hbm, ⟨9, _⟩ => ⟨S2x1024x16384, .f32⟩
  | .hbm, ⟨10, _⟩ => ⟨S2x1024x16384, .f32⟩
  | .hbm, ⟨11, _⟩ => ⟨S1024x16384, .i32⟩
  | .hbm, ⟨12, _⟩ => ⟨S2x1024x16384, .i32⟩
  | .hbm, ⟨13, _⟩ => ⟨S2x1024x16384, .f32⟩
  | .hbm, ⟨14, _⟩ => ⟨S2x1024x16384, .i32⟩
  | .hbm, ⟨15, _⟩ => ⟨S_, .i32⟩
  | .hbm, ⟨16, _⟩ => ⟨S2x1024x16384, .i32⟩
  | .hbm, ⟨17, _⟩ => ⟨S2x1024x16384, .i1⟩
  | .hbm, ⟨18, _⟩ => ⟨S_, .i32⟩
  | .hbm, ⟨19, _⟩ => ⟨S2x1024x16384, .i32⟩
  | .hbm, ⟨20, _⟩ => ⟨S2x1024x16384, .i32⟩
  | .hbm, ⟨21, _⟩ => ⟨S2x1024x16384, .i32⟩
  | .hbm, ⟨22, _⟩ => ⟨S2x1024x16384x1, .i32⟩
  | .hbm, ⟨23, _⟩ => ⟨S1, .i32⟩
  | .hbm, ⟨24, _⟩ => ⟨S_, .i32⟩
  | .hbm, ⟨25, _⟩ => ⟨S2x1024x16384x1, .i32⟩
  | .hbm, ⟨26, _⟩ => ⟨S2x1024x16384x1, .i1⟩
  | .hbm, ⟨27, _⟩ => ⟨S1x1x1x1, .i32⟩
  | .hbm, ⟨28, _⟩ => ⟨S2x1024x16384x1, .i32⟩
  | .hbm, ⟨29, _⟩ => ⟨S2x1024x16384x1, .i1⟩
  | .hbm, ⟨30, _⟩ => ⟨S2x1024x16384x1, .i1⟩
  | .hbm, ⟨31, _⟩ => ⟨S_, .i1⟩
  | .hbm, ⟨32, _⟩ => ⟨S2x1024x16384, .i1⟩
  | .hbm, ⟨33, _⟩ => ⟨S2x1024x16384, .f32⟩
  | .hbm, ⟨34, _⟩ => ⟨S_, .f32⟩
  | .hbm, ⟨35, _⟩ => ⟨S2x1024x16384, .f32⟩
  | .hbm, ⟨36, _⟩ => ⟨S2x1024x16384, .f32⟩
  | .hbm, ⟨37, _⟩ => ⟨S2x1024x16, .i32⟩
  | .hbm, ⟨38, _⟩ => ⟨S2x1024x16, .f32⟩
  | _, _ => ⟨S2x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_v2_0 : Ref sig .tc := ⟨.hbm, 13, rfl⟩
abbrev main_v8 : Ref sig .tc := ⟨.hbm, 14, rfl⟩
abbrev main_call1_c : Ref sig .tc := ⟨.hbm, 15, rfl⟩
abbrev main_call1_v0 : Ref sig .tc := ⟨.hbm, 16, rfl⟩
abbrev main_call1_v1 : Ref sig .tc := ⟨.hbm, 17, rfl⟩
abbrev main_call1_c_0 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_c_2 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_3 : Ref sig .tc := ⟨.hbm, 31, rfl⟩
abbrev main_call1_v12 : Ref sig .tc := ⟨.hbm, 32, rfl⟩
abbrev main_call1_v13 : Ref sig .tc := ⟨.hbm, 33, rfl⟩
abbrev main_call1_cst : Ref sig .tc := ⟨.hbm, 34, rfl⟩
abbrev main_call1_v14 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩

abbrev nD : Nat := 1
abbrev τ : Topo := Topo.v7x

variable {F : FTy → Type} [FloatOps F]
-- ==== Proof.KernelFrame.lean ====
module

public import proofs.«01_k».proof.Proof.Gen.Kernel.Frame
public import proofs.«01_k».proof.Proof.Gen.Kernel.Skeleton
public import Idealize.ShloMosaic.Lib.Claim
public import Idealize.ShloMosaic.Lib.Tactic

@[expose] public section

set_option maxRecDepth 16384

noncomputable section

namespace Cert.Kernel.Quiet

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition under which the body fills its scratch, in terms of the grid coordinates. -/
abbrev cond0_0 (i : grid0.Coords) : Prop := (Scalar.cmpi .ne (Scalar.extui (Scalar.cmpi .eq (BitVec.ofNat 32 (i 1).val) 0#32)) 0#32) = 1#1
/-- The scratch is filled at the points whose number is a multiple of 8. -/
theorem hcond0_0 : ∀ t : Fin cfg0.N, cond0_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-! ## The staging memrefs -/

/-- The staging memref of each window at point `t`, and that it is a whole buffer. -/
abbrev ms0_0 (t : Fin cfg0.N) : Memref sig .tc .vmem S1x128x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16384x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x16 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x16 .f32 := win0_3.stage (cfg0.slots t 3)
abbrev hs0_3 (t : Fin cfg0.N) : (ms0_3 t).IsWhole := hstage0_3 ((cfg0.slots t 3).cast nbuf0_3)
/-- The kernel's scratch buffer. -/
abbrev scM0_0 : Memref sig .tc .vmem S16384x72 .f32 := Memref.whole cc0_scratch0

/-- The invariant between points: the scratch at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 0 in
/-- The body run at a point where the scratch is filled: from both input blocks and any contents of the two output
    blocks and of the scratch, it terminates with the inputs as they were and the rest at some contents. -/
theorem kernelRun0_A (c : Dev nD) (i : grid0.Coords) (arg2 : Memref sig .tc .vmem S1x128x64 .f32) (harg2 : arg2.IsWhole) (arg3 : Memref sig .tc .vmem S1x16384x64 .f32) (harg3 : arg3.IsWhole) (arg4 : Memref sig .tc .vmem S1x128x16 .i32) (harg4 : arg4.IsWhole) (arg5 : Memref sig .tc .vmem S1x128x16 .f32) (harg5 : arg5.IsWhole) (arg6 : Memref sig .tc .vmem S16384x72 .f32) (harg6 : arg6.IsWhole) (hc0 : cond0_0 i)
    (x0 : Vec F S1x128x64 .f32) (x1 : Vec F S1x16384x64 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc0__knn_block i arg2 harg2 arg3 harg3 arg4 harg4 arg5 harg5 arg6 harg6) K := by
    intro E K
    simp only [cc0__knn_block_eq_skeleton]; unfold cc0__knn_block_skel
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg2.eq_unread hf0; obtain rfl := harg3.eq_unread hf1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    iexists _, _; isplitr; swap; · iexact HS0
    ipureintro; rfl

set_option maxHeartbeats 0 in
/-- The body run at a point where the scratch is NOT filled: from both input blocks and any contents of the two output
    blocks and of the scratch, it terminates with the inputs as they were and the rest at some contents. -/
theorem kernelRun0_B (c : Dev nD) (i : grid0.Coords) (arg2 : Memref sig .tc .vmem S1x128x64 .f32) (harg2 : arg2.IsWhole) (arg3 : Memref sig .tc .vmem S1x16384x64 .f32) (harg3 : arg3.IsWhole) (arg4 : Memref sig .tc .vmem S1x128x16 .i32) (harg4 : arg4.IsWhole) (arg5 : Memref sig .tc .vmem S1x128x16 .f32) (harg5 : arg5.IsWhole) (arg6 : Memref sig .tc .vmem S16384x72 .f32) (harg6 : arg6.IsWhole) (hc0 : ¬cond0_0 i)
    (x0 : Vec F S1x128x64 .f32) (x1 : Vec F S1x16384x64 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc0__knn_block i arg2 harg2 arg3 harg3 arg4 harg4 arg5 harg5 arg6 harg6) K := by
    intro E K
    simp only [cc0__knn_block_eq_skeleton]; unfold cc0__knn_block_skel
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg2.eq_unread hf0; obtain rfl := harg3.eq_unread hf1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _, _; isplitr; swap; · iexact H2
      ipureintro; rfl
    isplitl [H3]
    · iexists _, _; isplitr; swap; · iexact H3
      ipureintro; rfl
    iexists _, _; isplitr; swap; · iexact HS0
    ipureintro; rfl

/-! ## The pipeline's proof data -/

/-- The two output windows: what the kernel leaves in them is not named here. -/
def forgets0 : Fin 4 → Bool := fun w => w.val == 2 || w.val == 3

/-- The proof data on core `c`: the arrays as launched, each input block left in place by the body, nothing named of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
  Φ _ := Pipeline.ΦA spec0 c
  q _ := fullShare
  owed _ := 0

/-- The proof data's arrays are the launch contents. -/
theorem A_eq (c : Dev nD) (w : Fin cfg0.W) : (dats m 0 c).A w = V m c (Pipeline.arrRef spec0 w) := by
  dsimp only [dats]

/-- The body leaves each input block in place. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

/-- Each input staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare d)
    ∗ (∃ d, owns (c : Thread nD τ) (ms0_3 t) fullShare d))

set_option maxHeartbeats 800000 in
/-- The body is correct at every point: the two cases of the first conditional are the two runs above. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  rw [show (dats m 0 c).Φ t.castSucc = Pipeline.ΦA spec0 c from rfl, PhiA0_eq]
  have hN : t.val < 16 := lt_of_lt_of_eq t.isLt (show cfg0.N = 16 from N_0)
  by_cases h0 : t.val % 8 = 0
  · iintro ⟨⟨HS0, Hg⟩, Ho, ⟨%d0, H0⟩, ⟨%d1, H1⟩, ⟨%d2, H2⟩, ⟨%d3, H3⟩⟩
    iapply ((kernelRun0_A c (grid0.coords t) _ _ _ _ _ _ _ _ _ _ ((hcond0_0 t).mpr h0) (iblk m c 0 t) (iblk m c 1 t)) Set.univ _)
    isplitl [H0]; · iexact H0
    isplitl [H1]; · iexact H1
    isplitl [H2]; · iexists _; iexact H2
    isplitl [H3]; · iexists _; iexact H3
    isplitl [HS0]; · iexact HS0
    iintro ⟨H0, H1, H2, H3, HS0⟩
    isplitl [HS0 Hg]
    · isplitl [HS0]
      · iexact HS0
      iexact Hg
    isplitl [Ho]; · iexact Ho
    isplitl [H0]; · iexact H0
    isplitl [H1]; · iexact H1
    isplitl [H2]; · iexact H2
    iexact H3
  · iintro ⟨⟨HS0, Hg⟩, Ho, ⟨%d0, H0⟩, ⟨%d1, H1⟩, ⟨%d2, H2⟩, ⟨%d3, H3⟩⟩
    iapply ((kernelRun0_B c (grid0.coords t) _ _ _ _ _ _ _ _ _ _ (fun h => h0 ((hcond0_0 t).mp h)) (iblk m c 0 t) (iblk m c 1 t)) Set.univ _)
    isplitl [H0]; · iexact H0
    isplitl [H1]; · iexact H1
    isplitl [H2]; · iexists _; iexact H2
    isplitl [H3]; · iexists _; iexact H3
    isplitl [HS0]; · iexact HS0
    iintro ⟨H0, H1, H2, H3, HS0⟩
    isplitl [HS0 Hg]
    · isplitl [HS0]
      · iexact HS0
      iexact Hg
    isplitl [Ho]; · iexact Ho
    isplitl [H0]; · iexact H0
    isplitl [H1]; · iexact H1
    isplitl [H2]; · iexact H2
    iexact H3

/-- The body table at point `t` is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch, with every semaphore counter at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch terminates with the input arrays unchanged. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Pipeline.RDat.FramePost.arr_in h c 0 rfl).trans ((A_eq m c 0).trans (V_main_arg0 m c)),
      (Pipeline.RDat.FramePost.arr_in h c 1 rfl).trans ((A_eq m c 1).trans (V_main_arg1 m c))⟩) (run_main m ρ)

/-- The frame: the kernel terminates, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Quiet

end
-- ==== Proof.Knn.lean ====
/- The kernel's arithmetic on whole blocks, named step by step: the padded operands, one segment's repeated minimum,
   the candidates of all segments, the repeated extraction of the least candidate, the count per segment and the two
   outputs. Everything is for any interpretation of the floats. -/
module

public import proofs.«01_k».proof.Proof.Gen.KernelIdeal

@[expose] public section

set_option maxRecDepth 16384

noncomputable section

namespace Cert.KernelIdeal.Knn

open Idealize.ShloMosaic Idealize.SL.Sem
open Cert.KernelIdeal Cert.KernelIdeal.Gen

variable {F : FTy → Type} [FloatOps F]

/-- The padded reference rows: the row, one, its squared length, six zeros. -/
def padR (x : Vec F S1x16384x64 .f32) : FVec F S16384x72 .f32 :=
  shapeCast S16384x72 (concatenate S16384x72 1
    [⟨S16384x64, shapeCast S16384x64 x shapeCasts_S1x16384x64_S16384x64⟩,
     ⟨S16384x1, broadcast S16384x1 (Scalar.ofBits .f32 0x3F800000#32)⟩,
     ⟨S16384x1, shapeCast S16384x1 (multiReduction .add [1] S16384
        (mulf (shapeCast S16384x64 x shapeCasts_S1x16384x64_S16384x64) (shapeCast S16384x64 x shapeCasts_S1x16384x64_S16384x64))
        0x00000000#32 reduces_S16384x64_S16384 (.inl rfl) rfl) shapeCasts_S16384_S16384x1⟩,
     ⟨S16384x6, broadcast S16384x6 (Scalar.ofBits .f32 0x00000000#32)⟩]
    concatenates_S16384x64_S16384x1_S16384x1_S16384x6_S16384x72_d1) shapeCasts_S16384x72_S16384x72

/-- The padded queries: minus twice the query, its squared length, one, six zeros. -/
def padQ (x : Vec F S1x128x64 .f32) : FVec F S128x72 .f32 :=
  concatenate S128x72 1
    [⟨S128x64, mulf (broadcast S128x64 (Scalar.ofBits .f32 0xC0000000#32)) (shapeCast S128x64 x shapeCasts_S1x128x64_S128x64)⟩,
     ⟨S128x1, shapeCast S128x1 (multiReduction .add [1] S128
        (mulf (shapeCast S128x64 x shapeCasts_S1x128x64_S128x64) (shapeCast S128x64 x shapeCasts_S1x128x64_S128x64))
        0x00000000#32 reduces_S128x64_S128 (.inl rfl) rfl) shapeCasts_S128_S128x1⟩,
     ⟨S128x1, broadcast S128x1 (Scalar.ofBits .f32 0x3F800000#32)⟩,
     ⟨S128x6, broadcast S128x6 (Scalar.ofBits .f32 0x00000000#32)⟩]
    concatenates_S128x64_S128x1_S128x1_S128x6_S128x72_d1

/-! ## One group of sixteen segments -/

/-- The squared distances of one group of rows to the queries, as (segment, lane, query). -/
def dist (qp : FVec F S128x72 .f32) (rows : Vec F S2048x72 .f32) : FVec F S16x128x128 .f32 :=
  shapeCast S16x128x128 (matmul dot_S2048x72_S128x72_S2048x128_1_1_0_0_n_n (some .fp32) rows qp
    (constant S2048x128 .f32 0x00000000#32)) shapeCasts_S2048x128_S16x128x128

/-- The lane numbers. -/
def lanes : IVec S16x128x128 32 := iota .tc S16x128x128 32 [1] iota_S16x128x128_d1_w32

/-- Each segment's least remaining distance. -/
def segMin (W : FVec F S16x128x128 .f32) : FVec F S16x128 .f32 :=
  multiReduction .minimumf [1] S16x128 W 0x7F800000#32 reduces_S16x128x128_S16x128 (.inl rfl) rfl

/-- The least lane at which it stands. -/
def segArg (W : FVec F S16x128x128 .f32) : IVec S16x128 32 :=
  multiReductionI .minsi [1] S16x128
    (select (cmpf .oeq W (broadcastTo S16x128x128 (shapeCast S16x1x128 (segMin W) shapeCasts_S16x128_S16x1x128) broadcasts_S16x1x128_S16x128x128))
      lanes (broadcast S16x128x128 (1073741824#32 : BitVec 32))) 2147483647#32 reduces_S16x128x128_S16x128 rfl

/-- The distances with that lane's removed. -/
def segNext (W : FVec F S16x128x128 .f32) : FVec F S16x128x128 .f32 :=
  select (cmpi .eq lanes (broadcastTo S16x128x128 (shapeCast S16x1x128 (segArg W) shapeCasts_S16x128_S16x1x128) broadcasts_S16x1x128_S16x128x128))
    (broadcast S16x128x128 (Scalar.ofBits .f32 0x7F800000#32)) W

/-- The distances with the `k` least removed. -/
def segRem (W : FVec F S16x128x128 .f32) : ℕ → FVec F S16x128x128 .f32
  | 0 => W
  | k + 1 => segNext (segRem W k)

/-- The `k`-th least distance of each segment, with a unit axis for stacking. -/
def segV (W : FVec F S16x128x128 .f32) (k : ℕ) : FVec F S16x1x128 .f32 :=
  shapeCast S16x1x128 (segMin (segRem W k)) shapeCasts_S16x128_S16x1x128

/-- Its lane. -/
def segL (W : FVec F S16x128x128 .f32) (k : ℕ) : IVec S16x1x128 32 :=
  shapeCast S16x1x128 (segArg (segRem W k)) shapeCasts_S16x128_S16x1x128

/-- The four least distances of each segment, -/
def groupV4 (W : FVec F S16x128x128 .f32) : FVec F S64x128 .f32 :=
  shapeCast S64x128 (concatenate S16x4x128 1 [⟨S16x1x128, segV W 0⟩, ⟨S16x1x128, segV W 1⟩, ⟨S16x1x128, segV W 2⟩, ⟨S16x1x128, segV W 3⟩]
    concatenates_S16x1x128_S16x1x128_S16x1x128_S16x1x128_S16x4x128_d1) shapeCasts_S16x4x128_S64x128

/-- and their global numbers, the group's first segment being `p`. -/
def groupG4 (p : BitVec 32) (W : FVec F S16x128x128 .f32) : IVec S64x128 32 :=
  shapeCast S64x128 (addi (muli (addi (iota .tc S16x4x128 32 [0] iota_S16x4x128_d0_w32) (broadcast S16x4x128 p)) (broadcast S16x4x128 (128#32 : BitVec 32)))
    (concatenate S16x4x128 1 [⟨S16x1x128, segL W 0⟩, ⟨S16x1x128, segL W 1⟩, ⟨S16x1x128, segL W 2⟩, ⟨S16x1x128, segL W 3⟩]
      concatenates_S16x1x128_S16x1x128_S16x1x128_S16x1x128_S16x4x128_d1)) shapeCasts_S16x4x128_S64x128

/-- The sixteen least distances of each segment, -/
def groupV16 (W : FVec F S16x128x128 .f32) : FVec F S256x128 .f32 :=
  shapeCast S256x128 (concatenate S16x16x128 1
    [⟨S16x1x128, segV W 0⟩, ⟨S16x1x128, segV W 1⟩, ⟨S16x1x128, segV W 2⟩, ⟨S16x1x128, segV W 3⟩,
     ⟨S16x1x128, segV W 4⟩, ⟨S16x1x128, segV W 5⟩, ⟨S16x1x128, segV W 6⟩, ⟨S16x1x128, segV W 7⟩,
     ⟨S16x1x128, segV W 8⟩, ⟨S16x1x128, segV W 9⟩, ⟨S16x1x128, segV W 10⟩, ⟨S16x1x128, segV W 11⟩,
     ⟨S16x1x128, segV W 12⟩, ⟨S16x1x128, segV W 13⟩, ⟨S16x1x128, segV W 14⟩, ⟨S16x1x128, segV W 15⟩]
    concatenates_S16x1x128_S16x1x128_S16x1x128_S16x1x128_S16x1x128_S16x1x128_S16x1x128_S16x1x128_S16x1x128_S16x1x128_S16x1x128_S16x1x128_S16x1x128_S16x1x128_S16x1x128_S16x1x128_S16x16x128_d1)
    shapeCasts_S16x16x128_S256x128

/-- and their global numbers. -/
def groupG16 (p : BitVec 32) (W : FVec F S16x128x128 .f32) : IVec S256x128 32 :=
  shapeCast S256x128 (addi (muli (addi (iota .tc S16x16x128 32 [0] iota_S16x16x128_d0_w32) (broadcast S16x16x128 p)) (broadcast S16x16x128 (128#32 : BitVec 32)))
    (concatenate S16x16x128 1
      [⟨S16x1x128, segL W 0⟩, ⟨S16x1x128, segL W 1⟩, ⟨S16x1x128, segL W 2⟩, ⟨S16x1x128, segL W 3⟩,
       ⟨S16x1x128, segL W 4⟩, ⟨S16x1x128, segL W 5⟩, ⟨S16x1x128, segL W 6⟩, ⟨S16x1x128, segL W 7⟩,
       ⟨S16x1x128, segL W 8⟩, ⟨S16x1x128, segL W 9⟩, ⟨S16x1x128, segL W 10⟩, ⟨S16x1x128, segL W 11⟩,
       ⟨S16x1x128, segL W 12⟩, ⟨S16x1x128, segL W 13⟩, ⟨S16x1x128, segL W 14⟩, ⟨S16x1x128, segL W 15⟩]
      concatenates_S16x1x128_S16x1x128_S16x1x128_S16x1x128_S16x1x128_S16x1x128_S16x1x128_S16x1x128_S16x1x128_S16x1x128_S16x1x128_S16x1x128_S16x1x128_S16x1x128_S16x1x128_S16x1x128_S16x16x128_d1))
    shapeCasts_S16x16x128_S256x128

/-- The padded rows of the eight groups, loaded one group at a time. -/
abbrev Rows (F : FTy → Type) := Fin 8 → Vec F S2048x72 .f32

/-- All candidates with four a segment, -/
def candV4 (qp : FVec F S128x72 .f32) (r : Rows F) : FVec F S512x128 .f32 :=
  concatenate S512x128 0
    [⟨S64x128, groupV4 (dist qp (r 0))⟩, ⟨S64x128, groupV4 (dist qp (r 1))⟩, ⟨S64x128, groupV4 (dist qp (r 2))⟩, ⟨S64x128, groupV4 (dist qp (r 3))⟩,
     ⟨S64x128, groupV4 (dist qp (r 4))⟩, ⟨S64x128, groupV4 (dist qp (r 5))⟩, ⟨S64x128, groupV4 (dist qp (r 6))⟩, ⟨S64x128, groupV4 (dist qp (r 7))⟩]
    concatenates_S64x128_S64x128_S64x128_S64x128_S64x128_S64x128_S64x128_S64x128_S512x128_d0

/-- and their numbers. -/
def candG4 (qp : FVec F S128x72 .f32) (r : Rows F) : IVec S512x128 32 :=
  concatenate S512x128 0
    [⟨S64x128, groupG4 0#32 (dist qp (r 0))⟩, ⟨S64x128, groupG4 16#32 (dist qp (r 1))⟩, ⟨S64x128, groupG4 32#32 (dist qp (r 2))⟩, ⟨S64x128, groupG4 48#32 (dist qp (r 3))⟩,
     ⟨S64x128, groupG4 64#32 (dist qp (r 4))⟩, ⟨S64x128, groupG4 80#32 (dist qp (r 5))⟩, ⟨S64x128, groupG4 96#32 (dist qp (r 6))⟩, ⟨S64x128, groupG4 112#32 (dist qp (r 7))⟩]
    concatenates_S64x128_S64x128_S64x128_S64x128_S64x128_S64x128_S64x128_S64x128_S512x128_d0

/-- All candidates with sixteen a segment, -/
def candV16 (qp : FVec F S128x72 .f32) (r : Rows F) : FVec F S2048x128 .f32 :=
  concatenate S2048x128 0
    [⟨S256x128, groupV16 (dist qp (r 0))⟩, ⟨S256x128, groupV16 (dist qp (r 1))⟩, ⟨S256x128, groupV16 (dist qp (r 2))⟩, ⟨S256x128, groupV16 (dist qp (r 3))⟩,
     ⟨S256x128, groupV16 (dist qp (r 4))⟩, ⟨S256x128, groupV16 (dist qp (r 5))⟩, ⟨S256x128, groupV16 (dist qp (r 6))⟩, ⟨S256x128, groupV16 (dist qp (r 7))⟩]
    concatenates_S256x128_S256x128_S256x128_S256x128_S256x128_S256x128_S256x128_S256x128_S2048x128_d0

/-- and their numbers. -/
def candG16 (qp : FVec F S128x72 .f32) (r : Rows F) : IVec S2048x128 32 :=
  concatenate S2048x128 0
    [⟨S256x128, groupG16 0#32 (dist qp (r 0))⟩, ⟨S256x128, groupG16 16#32 (dist qp (r 1))⟩, ⟨S256x128, groupG16 32#32 (dist qp (r 2))⟩, ⟨S256x128, groupG16 48#32 (dist qp (r 3))⟩,
     ⟨S256x128, groupG16 64#32 (dist qp (r 4))⟩, ⟨S256x128, groupG16 80#32 (dist qp (r 5))⟩, ⟨S256x128, groupG16 96#32 (dist qp (r 6))⟩, ⟨S256x128, groupG16 112#32 (dist qp (r 7))⟩]
    concatenates_S256x128_S256x128_S256x128_S256x128_S256x128_S256x128_S256x128_S256x128_S2048x128_d0

/-! ## Extraction of the least candidates, the table having `n` rows -/

/-- A table of `n` candidates for each query. -/
abbrev Tab (n : ℕ) : Shape := ⟨2, ![n, 128]⟩

section Extract

variable {n : ℕ} (hr : (Tab n).Reduces [0] S128) (hb : S1x128.Broadcasts (Tab n))

/-- The least remaining value of each column, -/
def colMin (V : FVec F (Tab n) .f32) : FVec F S1x128 .f32 :=
  shapeCast S1x128 (multiReduction .minimumf [0] S128 V 0x7F800000#32 hr (.inl rfl) rfl) shapeCasts_S128_S1x128

/-- the least number at which it stands, -/
def colArg (G : IVec (Tab n) 32) (V : FVec F (Tab n) .f32) : IVec S1x128 32 :=
  shapeCast S1x128 (multiReductionI .minsi [0] S128
    (select (cmpf .oeq V (broadcastTo (Tab n) (colMin hr V) hb)) G (broadcast (Tab n) (1073741824#32 : BitVec 32)))
    2147483647#32 hr rfl) shapeCasts_S128_S1x128

/-- the values with that candidate's removed, -/
def colNext (G : IVec (Tab n) 32) (V : FVec F (Tab n) .f32) : FVec F (Tab n) .f32 :=
  select (cmpi .eq G (broadcastTo (Tab n) (colArg hr hb G V) hb)) (broadcast (Tab n) (Scalar.ofBits .f32 0x7F800000#32)) V

/-- and with the `k` least removed. -/
def colRem (G : IVec (Tab n) 32) (V : FVec F (Tab n) .f32) : ℕ → FVec F (Tab n) .f32
  | 0 => V
  | k + 1 => colNext hr hb G (colRem G V k)

/-- The `k`-th least value and its number. -/
def colV (G : IVec (Tab n) 32) (V : FVec F (Tab n) .f32) (k : ℕ) : FVec F S1x128 .f32 := colMin hr (colRem hr hb G V k)
def colG (G : IVec (Tab n) 32) (V : FVec F (Tab n) .f32) (k : ℕ) : IVec S1x128 32 := colArg hr hb G (colRem hr hb G V k)

/-- The sixteen least values, -/
def topV (G : IVec (Tab n) 32) (V : FVec F (Tab n) .f32) : FVec F S16x128 .f32 :=
  concatenate S16x128 0
    [⟨S1x128, colV hr hb G V 0⟩, ⟨S1x128, colV hr hb G V 1⟩, ⟨S1x128, colV hr hb G V 2⟩, ⟨S1x128, colV hr hb G V 3⟩,
     ⟨S1x128, colV hr hb G V 4⟩, ⟨S1x128, colV hr hb G V 5⟩, ⟨S1x128, colV hr hb G V 6⟩, ⟨S1x128, colV hr hb G V 7⟩,
     ⟨S1x128, colV hr hb G V 8⟩, ⟨S1x128, colV hr hb G V 9⟩, ⟨S1x128, colV hr hb G V 10⟩, ⟨S1x128, colV hr hb G V 11⟩,
     ⟨S1x128, colV hr hb G V 12⟩, ⟨S1x128, colV hr hb G V 13⟩, ⟨S1x128, colV hr hb G V 14⟩, ⟨S1x128, colV hr hb G V 15⟩]
    concatenates_S1x128_S1x128_S1x128_S1x128_S1x128_S1x128_S1x128_S1x128_S1x128_S1x128_S1x128_S1x128_S1x128_S1x128_S1x128_S1x128_S16x128_d0

/-- and their numbers. -/
def topG (G : IVec (Tab n) 32) (V : FVec F (Tab n) .f32) : IVec S16x128 32 :=
  concatenate S16x128 0
    [⟨S1x128, colG hr hb G V 0⟩, ⟨S1x128, colG hr hb G V 1⟩, ⟨S1x128, colG hr hb G V 2⟩, ⟨S1x128, colG hr hb G V 3⟩,
     ⟨S1x128, colG hr hb G V 4⟩, ⟨S1x128, colG hr hb G V 5⟩, ⟨S1x128, colG hr hb G V 6⟩, ⟨S1x128, colG hr hb G V 7⟩,
     ⟨S1x128, colG hr hb G V 8⟩, ⟨S1x128, colG hr hb G V 9⟩, ⟨S1x128, colG hr hb G V 10⟩, ⟨S1x128, colG hr hb G V 11⟩,
     ⟨S1x128, colG hr hb G V 12⟩, ⟨S1x128, colG hr hb G V 13⟩, ⟨S1x128, colG hr hb G V 14⟩, ⟨S1x128, colG hr hb G V 15⟩]
    concatenates_S1x128_S1x128_S1x128_S1x128_S1x128_S1x128_S1x128_S1x128_S1x128_S1x128_S1x128_S1x128_S1x128_S1x128_S1x128_S1x128_S16x128_d0

end Extract

/-! ## The outputs -/

/-- The stored numbers. -/
def outI (g : IVec S16x128 32) : IVec S1x128x16 32 :=
  shapeCast S1x128x16 (transpose S128x16 [1, 0] g transposes_S16x128_p1_0_S128x16) shapeCasts_S128x16_S1x128x16

/-- The stored distances. -/
def outD (d : FVec F S16x128 .f32) : FVec F S1x128x16 .f32 :=
  shapeCast S1x128x16 (transpose S128x16 [1, 0] (sqrt (maximumf d (broadcast S16x128 (Scalar.ofBits .f32 0x00000000#32))))
    transposes_S16x128_p1_0_S128x16) shapeCasts_S128x16_S1x128x16

/-! ## The count of chosen candidates per segment -/

/-- The segment of a number: its quotient by 128, rounded down. -/
def segOf (x : IVec S1x128 32) : IVec S1x128 32 :=
  select
    (andi
      (cmpi .ne
        (subi (extui 32 (cmpi .sgt x (broadcast S1x128 (0#32 : BitVec 32))) natLt_1_32)
          (extui 32 (cmpi .slt x (broadcast S1x128 (0#32 : BitVec 32))) natLt_1_32))
        (broadcast S1x128 (Scalar.subi (Scalar.extui (Scalar.cmpi .sgt (128#32 : BitVec 32) 0#32)) (Scalar.extui (Scalar.cmpi .slt (128#32 : BitVec 32) 0#32)) : BitVec 32)))
      (cmpi .ne (remsi x (broadcast S1x128 (128#32 : BitVec 32))) (broadcast S1x128 (0#32 : BitVec 32))))
    (subi (divsi x (broadcast S1x128 (128#32 : BitVec 32))) (broadcast S1x128 (1#32 : BitVec 32)))
    (divsi x (broadcast S1x128 (128#32 : BitVec 32)))

/-- One more chosen number counted at its segment. -/
def cntStep (c : IVec S128x128 32) (x : IVec S1x128 32) : IVec S128x128 32 :=
  addi c (extui 32 (cmpi .eq (broadcastTo S128x128 (segOf x) broadcasts_S1x128_S128x128)
    (iota .tc S128x128 32 [0] iota_S128x128_d0_w32)) natLt_1_32)

/-- The count of the sixteen chosen numbers at each segment. -/
def cnt (g : IVec S16x128 32) : IVec S128x128 32 :=
  cntStep (cntStep (cntStep (cntStep (cntStep (cntStep (cntStep (cntStep (cntStep (cntStep (cntStep (cntStep (cntStep (cntStep (cntStep (cntStep
    (broadcast S128x128 (0#32 : BitVec 32))
    (extractStridedSlice S1x128 ![0, 0] g slices_S16x128_o0_0_S1x128)) (extractStridedSlice S1x128 ![1, 0] g slices_S16x128_o1_0_S1x128))
    (extractStridedSlice S1x128 ![2, 0] g slices_S16x128_o2_0_S1x128)) (extractStridedSlice S1x128 ![3, 0] g slices_S16x128_o3_0_S1x128))
    (extractStridedSlice S1x128 ![4, 0] g slices_S16x128_o4_0_S1x128)) (extractStridedSlice S1x128 ![5, 0] g slices_S16x128_o5_0_S1x128))
    (extractStridedSlice S1x128 ![6, 0] g slices_S16x128_o6_0_S1x128)) (extractStridedSlice S1x128 ![7, 0] g slices_S16x128_o7_0_S1x128))
    (extractStridedSlice S1x128 ![8, 0] g slices_S16x128_o8_0_S1x128)) (extractStridedSlice S1x128 ![9, 0] g slices_S16x128_o9_0_S1x128))
    (extractStridedSlice S1x128 ![10, 0] g slices_S16x128_o10_0_S1x128)) (extractStridedSlice S1x128 ![11, 0] g slices_S16x128_o11_0_S1x128))
    (extractStridedSlice S1x128 ![12, 0] g slices_S16x128_o12_0_S1x128)) (extractStridedSlice S1x128 ![13, 0] g slices_S16x128_o13_0_S1x128))
    (extractStridedSlice S1x128 ![14, 0] g slices_S16x128_o14_0_S1x128)) (extractStridedSlice S1x128 ![15, 0] g slices_S16x128_o15_0_S1x128)

/-- Whether some segment holds four or more of the chosen, as the word the kernel branches on. -/
def ovf (g : IVec S16x128 32) : BitVec 1 :=
  Scalar.cmpi .ne (Scalar.extui (Scalar.cmpf .ogt
    (extractAt ![0, 0, 0] (shapeCast S1x1x1 (multiReduction .maximumf [1, 2] S1
      (shapeCast S1x128x128 (select (cmpi .sge (cnt g) (broadcast S128x128 (4#32 : BitVec 32)))
        (broadcast S128x128 (Scalar.ofBits .f32 0x3F800000#32)) (broadcast S128x128 (Scalar.ofBits .f32 0x00000000#32)) : FVec F S128x128 .f32)
        shapeCasts_S128x128_S1x128x128) 0xFF800000#32 reduces_S1x128x128_S1 (.inl rfl) rfl) shapeCasts_S1_S1x1x1) inpos_S1x1x1_p0_0_0)
    (Scalar.ofBits .f32 0x00000000#32)) : BitVec 32) 0#32

/-! ## The body's results -/

variable (qp : FVec F S128x72 .f32) (r : Rows F)

/-- The first attempt's numbers and values, -/
def top4G : IVec S16x128 32 := topG reduces_S512x128_S128 broadcasts_S1x128_S512x128 (candG4 qp r) (candV4 qp r)
def top4V : FVec F S16x128 .f32 := topV reduces_S512x128_S128 broadcasts_S1x128_S512x128 (candG4 qp r) (candV4 qp r)
/-- the exact fallback's, -/
def top16G : IVec S16x128 32 := topG reduces_S2048x128_S128 broadcasts_S1x128_S2048x128 (candG16 qp r) (candV16 qp r)
def top16V : FVec F S16x128 .f32 := topV reduces_S2048x128_S128 broadcasts_S1x128_S2048x128 (candG16 qp r) (candV16 qp r)

/-- and what the two outputs hold at the end. -/
def resI : IVec S1x128x16 32 := if ovf (F := F) (top4G qp r) = 1#1 then outI (top16G qp r) else outI (top4G qp r)
def resD : FVec F S1x128x16 .f32 := if ovf (F := F) (top4G qp r) = 1#1 then outD (top16V qp r) else outD (top4V qp r)

end Cert.KernelIdeal.Knn

end
-- ==== Proof.Body.lean ====
/- The kernel's body is the short program `kbody`, whose arithmetic is named in `Knn`: each printed group of operations is
   folded back into its name, from the innermost outwards. -/
module

public import proofs.«01_k».proof.Proof.Gen.KernelIdeal
public import proofs.«01_k».proof.Proof.Knn
@[expose] public section
set_option maxRecDepth 65536
set_option maxHeartbeats 0

noncomputable section

namespace Cert.KernelIdeal.Knn

open Idealize.ShloMosaic Idealize.ShloMosaic.TcCoe Idealize.SL Idealize.SL.Sem Cert.KernelIdeal Cert.KernelIdeal.Gen
variable {F : FTy → Type} [FloatOps F]

/-- The lane numbers, as printed. -/
theorem lanes_fold (h : S16x128x128.Iotas .tc 32 [1]) :
    iota .tc S16x128x128 32  ([(1 : Fin 3)] : List (Fin 3))  h = lanes := rfl
/-- One segment minimum, as printed. -/
theorem segMin_fold (W : FVec F S16x128x128 .f32) (h : S16x128x128.Reduces [1] S16x128) (h' : FTy.f32 = FTy.f32 ∨ FTy.f32 = FTy.bf16) (h'' : 0x7F800000#32 = 0x7F800000#32) :
    multiReduction .minimumf  ([(1 : Fin 3)] : List (Fin 3))  S16x128 W 0x7F800000#32 h h' h'' = segMin W := rfl
/-- The lane of a segment minimum, as printed. -/
theorem segArg_fold (W : FVec F S16x128x128 .f32) (h : S16x128x128.Reduces [1] S16x128) (h' : 2147483647#32 = 2147483647#32) (h₁ h₂) :
    multiReductionI .minsi  ([(1 : Fin 3)] : List (Fin 3))  S16x128
    (select (cmpf .oeq W (broadcastTo S16x128x128 (shapeCast S16x1x128 (segMin W) h₁) h₂))
      lanes (broadcast S16x128x128 (1073741824#32 : BitVec 32))) 2147483647#32 h h' = segArg W := rfl
/-- The removal of a segment minimum, as printed. -/
theorem segNext_fold (W : FVec F S16x128x128 .f32) (h₁ h₂) :
  select (cmpi .eq lanes (broadcastTo S16x128x128 (shapeCast S16x1x128 (segArg W) h₁) h₂))
    (broadcast S16x128x128 (Scalar.ofBits .f32 0x7F800000#32 : F .f32)) W = segNext W := rfl
/-- The distances of a group, as printed. -/
theorem dist_fold (qp : FVec F S128x72 .f32) (rows : Vec F S2048x72 .f32) (h) :
  shapeCast S16x128x128 (matmul dot_S2048x72_S128x72_S2048x128_1_1_0_0_n_n (some .fp32) rows qp
    (constant S2048x128 .f32 0x00000000#32)) h = dist qp rows := rfl

/-- The padded queries, as printed. -/
theorem padQ_fold (x : Vec F S1x128x64 .f32) (h₁ : S128x64.Reduces [1] S128) (h₂ : FTy.f32 = FTy.f32 ∨ FTy.f32 = FTy.bf16) (h₃ : 0x00000000#32 = 0x00000000#32) (h₄ h₅ h₆) :
  concatenate S128x72 1
    [⟨S128x64, mulf (broadcast S128x64 (Scalar.ofBits .f32 0xC0000000#32)) (shapeCast S128x64 x h₄)⟩,
     ⟨S128x1, shapeCast S128x1 (multiReduction .add ([(1 : Fin 2)] : List (Fin 2)) S128
        (mulf (shapeCast S128x64 x h₄) (shapeCast S128x64 x h₄)) 0x00000000#32 h₁ h₂ h₃) h₅⟩,
     ⟨S128x1, broadcast S128x1 (Scalar.ofBits .f32 0x3F800000#32)⟩,
     ⟨S128x6, broadcast S128x6 (Scalar.ofBits .f32 0x00000000#32)⟩] h₆ = padQ x := rfl
/-- The padded rows, as printed. -/
theorem padR_fold (x : Vec F S1x16384x64 .f32) (h₁ : S16384x64.Reduces [1] S16384) (h₂ : FTy.f32 = FTy.f32 ∨ FTy.f32 = FTy.bf16) (h₃ : 0x00000000#32 = 0x00000000#32) (h₄ h₅ h₆ h₇) :
  shapeCast S16384x72 (concatenate S16384x72 1
    [⟨S16384x64, shapeCast S16384x64 x h₄⟩,
     ⟨S16384x1, broadcast S16384x1 (Scalar.ofBits .f32 0x3F800000#32)⟩,
     ⟨S16384x1, shapeCast S16384x1 (multiReduction .add ([(1 : Fin 2)] : List (Fin 2)) S16384
        (mulf (shapeCast S16384x64 x h₄) (shapeCast S16384x64 x h₄)) 0x00000000#32 h₁ h₂ h₃) h₅⟩,
     ⟨S16384x6, broadcast S16384x6 (Scalar.ofBits .f32 0x00000000#32)⟩] h₆) h₇ = padR x := rfl
/-- The segment of a number, as printed. -/
theorem segOf_fold (x : IVec S1x128 32) (h₁ h₂) :
  select
    (andi
      (cmpi .ne
        (subi (extui 32 (cmpi .sgt x (broadcast S1x128 (0#32 : BitVec 32))) h₁)
          (extui 32 (cmpi .slt x (broadcast S1x128 (0#32 : BitVec 32))) h₂))
        (broadcast S1x128 (Scalar.subi (Scalar.extui (Scalar.cmpi .sgt (128#32 : BitVec 32) 0#32)) (Scalar.extui (Scalar.cmpi .slt (128#32 : BitVec 32) 0#32)) : BitVec 32)))
      (cmpi .ne (remsi x (broadcast S1x128 (128#32 : BitVec 32))) (broadcast S1x128 (0#32 : BitVec 32))))
    (subi (divsi x (broadcast S1x128 (128#32 : BitVec 32))) (broadcast S1x128 (1#32 : BitVec 32)))
    (divsi x (broadcast S1x128 (128#32 : BitVec 32))) = segOf x := rfl
/-- One counted number, as printed. -/
theorem cntStep_fold (c : IVec S128x128 32) (x : IVec S1x128 32) (h₁ h₂) (h₃ : S128x128.Iotas .tc 32 [0]) :
  addi c (extui 32 (cmpi .eq (broadcastTo S128x128 (segOf x) h₁) (iota .tc S128x128 32 ([(0 : Fin 2)] : List (Fin 2)) h₃)) h₂) = cntStep c x := rfl
/-- Nothing removed. -/
theorem segRem_zero (W : FVec F S16x128x128 .f32) : segRem W 0 = W := rfl
/-- One more removed. -/
theorem segRem_succ (W : FVec F S16x128x128 .f32) (k) : segRem W (k + 1) = segNext (segRem W k) := rfl
section
variable {n : ℕ} (hr : (Tab n).Reduces [0] S128) (hb : S1x128.Broadcasts (Tab n)) (G : IVec (Tab n) 32) (V : FVec F (Tab n) .f32)
/-- Nothing removed from a table. -/
theorem colRem_zero : colRem hr hb G V 0 = V := rfl
/-- One more removed from a table. -/
theorem colRem_succ (k) : colRem hr hb G V (k + 1) = colNext hr hb G (colRem hr hb G V k) := rfl
end

/-- The least of a table, as printed. -/
theorem colMin_fold512 (V : FVec F S512x128 .f32) (h : Shape.Reduces S512x128 [0] S128) (h' : FTy.f32 = FTy.f32 ∨ FTy.f32 = FTy.bf16) (h'' : 0x7F800000#32 = 0x7F800000#32) (h₁) :
  shapeCast S1x128 (multiReduction .minimumf ([(0 : Fin 2)] : List (Fin 2)) S128 V 0x7F800000#32 h h' h'') h₁ = colMin reduces_S512x128_S128 V := rfl
/-- Its number, as printed. -/
theorem colArg_fold512 (G : IVec S512x128 32) (V : FVec F S512x128 .f32) (h : Shape.Reduces S512x128 [0] S128) (h' : 2147483647#32 = 2147483647#32) (h₁ h₂) :
  shapeCast S1x128 (multiReductionI .minsi ([(0 : Fin 2)] : List (Fin 2)) S128
    (select (cmpf .oeq V (broadcastTo S512x128 (colMin reduces_S512x128_S128 V) h₂)) G (broadcast S512x128 (1073741824#32 : BitVec 32)))
    2147483647#32 h h') h₁ = colArg reduces_S512x128_S128 broadcasts_S1x128_S512x128 G V := rfl
/-- Its removal, as printed. -/
theorem colNext_fold512 (G : IVec S512x128 32) (V : FVec F S512x128 .f32) (h₂) :
  select (cmpi .eq G (broadcastTo S512x128 (colArg reduces_S512x128_S128 broadcasts_S1x128_S512x128 G V) h₂)) (broadcast S512x128 (Scalar.ofBits .f32 0x7F800000#32 : F .f32)) V = colNext reduces_S512x128_S128 broadcasts_S1x128_S512x128 G V := rfl

/-- The least of a table, as printed. -/
theorem colMin_fold2048 (V : FVec F S2048x128 .f32) (h : Shape.Reduces S2048x128 [0] S128) (h' : FTy.f32 = FTy.f32 ∨ FTy.f32 = FTy.bf16) (h'' : 0x7F800000#32 = 0x7F800000#32) (h₁) :
  shapeCast S1x128 (multiReduction .minimumf ([(0 : Fin 2)] : List (Fin 2)) S128 V 0x7F800000#32 h h' h'') h₁ = colMin reduces_S2048x128_S128 V := rfl
/-- Its number, as printed. -/
theorem colArg_fold2048 (G : IVec S2048x128 32) (V : FVec F S2048x128 .f32) (h : Shape.Reduces S2048x128 [0] S128) (h' : 2147483647#32 = 2147483647#32) (h₁ h₂) :
  shapeCast S1x128 (multiReductionI .minsi ([(0 : Fin 2)] : List (Fin 2)) S128
    (select (cmpf .oeq V (broadcastTo S2048x128 (colMin reduces_S2048x128_S128 V) h₂)) G (broadcast S2048x128 (1073741824#32 : BitVec 32)))
    2147483647#32 h h') h₁ = colArg reduces_S2048x128_S128 broadcasts_S1x128_S2048x128 G V := rfl
/-- Its removal, as printed. -/
theorem colNext_fold2048 (G : IVec S2048x128 32) (V : FVec F S2048x128 .f32) (h₂) :
  select (cmpi .eq G (broadcastTo S2048x128 (colArg reduces_S2048x128_S128 broadcasts_S1x128_S2048x128 G V) h₂)) (broadcast S2048x128 (Scalar.ofBits .f32 0x7F800000#32 : F .f32)) V = colNext reduces_S2048x128_S128 broadcasts_S1x128_S2048x128 G V := rfl

/-- A sequence is rewritten at its head first. -/
@[local congr] theorem bind_congr_left {E : Type → Type 1} {α β : Type} {x x' : Prog E α} (h : x = x') (f : α → Prog E β) : (x >>= f) = (x' >>= f) := by rw [h]

/-- The first step's condition: the block's first group of queries. -/
def first (i : grid0.Coords) : BitVec 1 :=
  Scalar.cmpi .ne (Scalar.extui (Scalar.cmpi .eq (BitVec.ofNat 32 (i 1).val) 0#32) : BitVec 32) 0#32

/-- The kernel's body with its arithmetic named. -/
def kbody (i : grid0.Coords) (arg2 : Memref sig .tc .vmem S1x128x64 .f32) (harg2 : arg2.IsWhole) (arg3 : Memref sig .tc .vmem S1x16384x64 .f32) (harg3 : arg3.IsWhole) (arg4 : Memref sig .tc .vmem S1x128x16 .i32) (harg4 : arg4.IsWhole) (arg5 : Memref sig .tc .vmem S1x128x16 .f32) (harg5 : arg5.IsWhole) (arg6 : Memref sig .tc .vmem S16384x72 .f32) (harg6 : arg6.IsWhole) : Prog (TpuEff nD τ sig (Elt F) Λ₀ .tc) PUnit := do
  if _ : first i = 1#1 then do
    let x1 : Vec F S1x16384x64 .f32 ← Prog.lift (.load arg3 (Rect.unit (s := S1x16384x64) ![0, 0, 0] S1x16384x64.size inb_S1x16384x64_S1x16384x64_0_0_0).toLoadRect (View.loadsAt_vmem h_S1x16384x64))
    let _ : Vec F S16384x72 .f32 ← Prog.lift (.load arg6 (Rect.unit (s := S16384x72) ![0, 0] S16384x72.size inb_S16384x72_S16384x72_0_0).toLoadRect (View.loadsAt_vmem h_S16384x72))
    Prog.lift (.store arg6 (Rect.unit (s := S16384x72) ![0, 0] S16384x72.size inb_S16384x72_S16384x72_0_0) (padR x1) Finset.univ (View.stores_vmem_bits_univ h_S16384x72 rfl) (.inl rfl))
    pure ⟨⟩
  else do
    pure ⟨⟩
  let x0 : Vec F S1x128x64 .f32 ← Prog.lift (.load arg2 (Rect.unit (s := S1x128x64) ![0, 0, 0] S1x128x64.size inb_S1x128x64_S1x128x64_0_0_0).toLoadRect (View.loadsAt_vmem h_S1x128x64))
  let r0 : Vec F S2048x72 .f32 ← Prog.lift (.load arg6 (Rect.unit (s := S16384x72) ![0, 0] S2048x72.size inb_S16384x72_S2048x72_0_0).toLoadRect (View.loadsAt_vmem h_S2048x72))
  let r1 : Vec F S2048x72 .f32 ← Prog.lift (.load arg6 (Rect.unit (s := S16384x72) ![2048, 0] S2048x72.size inb_S16384x72_S2048x72_2048_0).toLoadRect (View.loadsAt_vmem h_S2048x72))
  let r2 : Vec F S2048x72 .f32 ← Prog.lift (.load arg6 (Rect.unit (s := S16384x72) ![4096, 0] S2048x72.size inb_S16384x72_S2048x72_4096_0).toLoadRect (View.loadsAt_vmem h_S2048x72))
  let r3 : Vec F S2048x72 .f32 ← Prog.lift (.load arg6 (Rect.unit (s := S16384x72) ![6144, 0] S2048x72.size inb_S16384x72_S2048x72_6144_0).toLoadRect (View.loadsAt_vmem h_S2048x72))
  let r4 : Vec F S2048x72 .f32 ← Prog.lift (.load arg6 (Rect.unit (s := S16384x72) ![8192, 0] S2048x72.size inb_S16384x72_S2048x72_8192_0).toLoadRect (View.loadsAt_vmem h_S2048x72))
  let r5 : Vec F S2048x72 .f32 ← Prog.lift (.load arg6 (Rect.unit (s := S16384x72) ![10240, 0] S2048x72.size inb_S16384x72_S2048x72_10240_0).toLoadRect (View.loadsAt_vmem h_S2048x72))
  let r6 : Vec F S2048x72 .f32 ← Prog.lift (.load arg6 (Rect.unit (s := S16384x72) ![12288, 0] S2048x72.size inb_S16384x72_S2048x72_12288_0).toLoadRect (View.loadsAt_vmem h_S2048x72))
  let r7 : Vec F S2048x72 .f32 ← Prog.lift (.load arg6 (Rect.unit (s := S16384x72) ![14336, 0] S2048x72.size inb_S16384x72_S2048x72_14336_0).toLoadRect (View.loadsAt_vmem h_S2048x72))
  let _ : Vec F S1x128x16 .i32 ← Prog.lift (.load arg4 (Rect.unit (s := S1x128x16) ![0, 0, 0] S1x128x16.size inb_S1x128x16_S1x128x16_0_0_0).toLoadRect (View.loadsAt_vmem h_S1x128x16))
  Prog.lift (.store arg4 (Rect.unit (s := S1x128x16) ![0, 0, 0] S1x128x16.size inb_S1x128x16_S1x128x16_0_0_0) (outI (top4G (padQ x0) ![r0, r1, r2, r3, r4, r5, r6, r7])) Finset.univ (View.stores_vmem_bits_univ h_S1x128x16 rfl) (.inl rfl))
  let _ : Vec F S1x128x16 .f32 ← Prog.lift (.load arg5 (Rect.unit (s := S1x128x16) ![0, 0, 0] S1x128x16.size inb_S1x128x16_S1x128x16_0_0_0).toLoadRect (View.loadsAt_vmem h_S1x128x16))
  Prog.lift (.store arg5 (Rect.unit (s := S1x128x16) ![0, 0, 0] S1x128x16.size inb_S1x128x16_S1x128x16_0_0_0) (outD (top4V (padQ x0) ![r0, r1, r2, r3, r4, r5, r6, r7])) Finset.univ (View.stores_vmem_bits_univ h_S1x128x16 rfl) (.inl rfl))
  if ovf (F := F) (top4G (padQ x0) ![r0, r1, r2, r3, r4, r5, r6, r7]) = 1#1 then do
    let s0 : Vec F S2048x72 .f32 ← Prog.lift (.load arg6 (Rect.unit (s := S16384x72) ![0, 0] S2048x72.size inb_S16384x72_S2048x72_0_0).toLoadRect (View.loadsAt_vmem h_S2048x72))
    let s1 : Vec F S2048x72 .f32 ← Prog.lift (.load arg6 (Rect.unit (s := S16384x72) ![2048, 0] S2048x72.size inb_S16384x72_S2048x72_2048_0).toLoadRect (View.loadsAt_vmem h_S2048x72))
    let s2 : Vec F S2048x72 .f32 ← Prog.lift (.load arg6 (Rect.unit (s := S16384x72) ![4096, 0] S2048x72.size inb_S16384x72_S2048x72_4096_0).toLoadRect (View.loadsAt_vmem h_S2048x72))
    let s3 : Vec F S2048x72 .f32 ← Prog.lift (.load arg6 (Rect.unit (s := S16384x72) ![6144, 0] S2048x72.size inb_S16384x72_S2048x72_6144_0).toLoadRect (View.loadsAt_vmem h_S2048x72))
    let s4 : Vec F S2048x72 .f32 ← Prog.lift (.load arg6 (Rect.unit (s := S16384x72) ![8192, 0] S2048x72.size inb_S16384x72_S2048x72_8192_0).toLoadRect (View.loadsAt_vmem h_S2048x72))
    let s5 : Vec F S2048x72 .f32 ← Prog.lift (.load arg6 (Rect.unit (s := S16384x72) ![10240, 0] S2048x72.size inb_S16384x72_S2048x72_10240_0).toLoadRect (View.loadsAt_vmem h_S2048x72))
    let s6 : Vec F S2048x72 .f32 ← Prog.lift (.load arg6 (Rect.unit (s := S16384x72) ![12288, 0] S2048x72.size inb_S16384x72_S2048x72_12288_0).toLoadRect (View.loadsAt_vmem h_S2048x72))
    let s7 : Vec F S2048x72 .f32 ← Prog.lift (.load arg6 (Rect.unit (s := S16384x72) ![14336, 0] S2048x72.size inb_S16384x72_S2048x72_14336_0).toLoadRect (View.loadsAt_vmem h_S2048x72))
    let _ : Vec F S1x128x16 .i32 ← Prog.lift (.load arg4 (Rect.unit (s := S1x128x16) ![0, 0, 0] S1x128x16.size inb_S1x128x16_S1x128x16_0_0_0).toLoadRect (View.loadsAt_vmem h_S1x128x16))
    Prog.lift (.store arg4 (Rect.unit (s := S1x128x16) ![0, 0, 0] S1x128x16.size inb_S1x128x16_S1x128x16_0_0_0) (outI (top16G (padQ x0) ![s0, s1, s2, s3, s4, s5, s6, s7])) Finset.univ (View.stores_vmem_bits_univ h_S1x128x16 rfl) (.inl rfl))
    let _ : Vec F S1x128x16 .f32 ← Prog.lift (.load arg5 (Rect.unit (s := S1x128x16) ![0, 0, 0] S1x128x16.size inb_S1x128x16_S1x128x16_0_0_0).toLoadRect (View.loadsAt_vmem h_S1x128x16))
    Prog.lift (.store arg5 (Rect.unit (s := S1x128x16) ![0, 0, 0] S1x128x16.size inb_S1x128x16_S1x128x16_0_0_0) (outD (top16V (padQ x0) ![s0, s1, s2, s3, s4, s5, s6, s7])) Finset.univ (View.stores_vmem_bits_univ h_S1x128x16 rfl) (.inl rfl))
    pure ⟨⟩
  else do
    pure ⟨⟩
  pure ⟨⟩

/-- The exact fallback computes the sixteen least of all candidates. -/
theorem fallback (i : grid0.Coords) (arg2 : Memref sig .tc .vmem S1x128x64 .f32) (harg2 : arg2.IsWhole) (arg3 : Memref sig .tc .vmem S1x16384x64 .f32) (harg3 : arg3.IsWhole) (arg4 : Memref sig .tc .vmem S1x128x16 .i32) (harg4 : arg4.IsWhole) (arg5 : Memref sig .tc .vmem S1x128x16 .f32) (harg5 : arg5.IsWhole) (arg6 : Memref sig .tc .vmem S16384x72 .f32) (harg6 : arg6.IsWhole) (v12 : FVec F S128x72 .f32) :
   k0_part45 i arg2 harg2 arg3 harg3 arg4 harg4 arg5 harg5 arg6 harg6 v12 = (do
  let r0 : Vec F S2048x72 .f32 ← Prog.lift (.load arg6 (Rect.unit (s := S16384x72) ![0, 0] S2048x72.size inb_S16384x72_S2048x72_0_0).toLoadRect (View.loadsAt_vmem h_S2048x72))
  let r1 : Vec F S2048x72 .f32 ← Prog.lift (.load arg6 (Rect.unit (s := S16384x72) ![2048, 0] S2048x72.size inb_S16384x72_S2048x72_2048_0).toLoadRect (View.loadsAt_vmem h_S2048x72))
  let r2 : Vec F S2048x72 .f32 ← Prog.lift (.load arg6 (Rect.unit (s := S16384x72) ![4096, 0] S2048x72.size inb_S16384x72_S2048x72_4096_0).toLoadRect (View.loadsAt_vmem h_S2048x72))
  let r3 : Vec F S2048x72 .f32 ← Prog.lift (.load arg6 (Rect.unit (s := S16384x72) ![6144, 0] S2048x72.size inb_S16384x72_S2048x72_6144_0).toLoadRect (View.loadsAt_vmem h_S2048x72))
  let r4 : Vec F S2048x72 .f32 ← Prog.lift (.load arg6 (Rect.unit (s := S16384x72) ![8192, 0] S2048x72.size inb_S16384x72_S2048x72_8192_0).toLoadRect (View.loadsAt_vmem h_S2048x72))
  let r5 : Vec F S2048x72 .f32 ← Prog.lift (.load arg6 (Rect.unit (s := S16384x72) ![10240, 0] S2048x72.size inb_S16384x72_S2048x72_10240_0).toLoadRect (View.loadsAt_vmem h_S2048x72))
  let r6 : Vec F S2048x72 .f32 ← Prog.lift (.load arg6 (Rect.unit (s := S16384x72) ![12288, 0] S2048x72.size inb_S16384x72_S2048x72_12288_0).toLoadRect (View.loadsAt_vmem h_S2048x72))
  let r7 : Vec F S2048x72 .f32 ← Prog.lift (.load arg6 (Rect.unit (s := S16384x72) ![14336, 0] S2048x72.size inb_S16384x72_S2048x72_14336_0).toLoadRect (View.loadsAt_vmem h_S2048x72))
  let _ : Vec F S1x128x16 .i32 ← Prog.lift (.load arg4 (Rect.unit (s := S1x128x16) ![0, 0, 0] S1x128x16.size inb_S1x128x16_S1x128x16_0_0_0).toLoadRect (View.loadsAt_vmem h_S1x128x16))
  pure ⟨top16V v12 ![r0, r1, r2, r3, r4, r5, r6, r7], outI (top16G v12 ![r0, r1, r2, r3, r4, r5, r6, r7])⟩) := by
  simp -implicitDefEqProofs only [k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, Prog.bind_lift, Prog.bind_op, Prog.bind_ret, Prog.pure_eq_ret, lanes_fold, padQ_fold, padR_fold, segOf_fold, cntStep_fold,  segMin_fold, segArg_fold, segNext_fold, dist_fold, colMin_fold512, colMin_fold2048, colArg_fold512, colArg_fold2048, colNext_fold512, colNext_fold2048]
  simp -implicitDefEqProofs only [top16V, top16G, topV, topG, outI, candV16, candG16, groupV16, groupG16, segV, segL, colV, colG, segRem_zero, segRem_succ, colRem_zero, colRem_succ, lanes_fold, padQ_fold, padR_fold, segOf_fold, cntStep_fold,  segMin_fold, segArg_fold, segNext_fold, dist_fold, colMin_fold512, colMin_fold2048, colArg_fold512, colArg_fold2048, colNext_fold512, colNext_fold2048, Prog.bind_lift, Prog.bind_op, Prog.bind_ret, Prog.pure_eq_ret]
  rfl

/-- The four least distances of a group, stacked. -/
theorem groupV4_fold (W : FVec F S16x128x128 .f32) (h₀ h₁ h₂ h₃ h₄ h₅) :
    shapeCast S64x128 (concatenate S16x4x128 1 [⟨S16x1x128, shapeCast S16x1x128 (segMin W) h₀⟩, ⟨S16x1x128, shapeCast S16x1x128 (segMin (segNext W)) h₁⟩, ⟨S16x1x128, shapeCast S16x1x128 (segMin (segNext (segNext W))) h₂⟩, ⟨S16x1x128, shapeCast S16x1x128 (segMin (segNext (segNext (segNext W)))) h₃⟩] h₄) h₅ = groupV4 W := rfl
/-- Their numbers, stacked. -/
theorem groupG4_fold (p : BitVec 32) (W : FVec F S16x128x128 .f32) (h : S16x4x128.Iotas .tc 32 [0]) (h₀ h₁ h₂ h₃ h₄ h₅) :
    shapeCast S64x128 (addi (muli (addi (iota .tc S16x4x128 32 ([(0 : Fin 3)] : List (Fin 3)) h) (broadcast S16x4x128 p)) (broadcast S16x4x128 (128#32 : BitVec 32)))
      (concatenate S16x4x128 1 [⟨S16x1x128, shapeCast S16x1x128 (segArg W) h₀⟩, ⟨S16x1x128, shapeCast S16x1x128 (segArg (segNext W)) h₁⟩, ⟨S16x1x128, shapeCast S16x1x128 (segArg (segNext (segNext W))) h₂⟩, ⟨S16x1x128, shapeCast S16x1x128 (segArg (segNext (segNext (segNext W)))) h₃⟩] h₄)) h₅ = groupG4 p W := rfl
/-- All candidates, stacked. -/
theorem candV4_fold (qp : FVec F S128x72 .f32) (r0 r1 r2 r3 r4 r5 r6 r7 : Vec F S2048x72 .f32) (h) :
    concatenate S512x128 0 [⟨S64x128, groupV4 (dist qp r0)⟩, ⟨S64x128, groupV4 (dist qp r1)⟩, ⟨S64x128, groupV4 (dist qp r2)⟩, ⟨S64x128, groupV4 (dist qp r3)⟩, ⟨S64x128, groupV4 (dist qp r4)⟩, ⟨S64x128, groupV4 (dist qp r5)⟩, ⟨S64x128, groupV4 (dist qp r6)⟩, ⟨S64x128, groupV4 (dist qp r7)⟩] h = candV4 qp ![r0, r1, r2, r3, r4, r5, r6, r7] := rfl
/-- Their numbers, stacked. -/
theorem candG4_fold (qp : FVec F S128x72 .f32) (r0 r1 r2 r3 r4 r5 r6 r7 : Vec F S2048x72 .f32) (h) :
    concatenate S512x128 0 [⟨S64x128, groupG4 0#32 (dist qp r0)⟩, ⟨S64x128, groupG4 16#32 (dist qp r1)⟩, ⟨S64x128, groupG4 32#32 (dist qp r2)⟩, ⟨S64x128, groupG4 48#32 (dist qp r3)⟩, ⟨S64x128, groupG4 64#32 (dist qp r4)⟩, ⟨S64x128, groupG4 80#32 (dist qp r5)⟩, ⟨S64x128, groupG4 96#32 (dist qp r6)⟩, ⟨S64x128, groupG4 112#32 (dist qp r7)⟩] h = candG4 qp ![r0, r1, r2, r3, r4, r5, r6, r7] := rfl
/-- The sixteen least of a table, stacked. -/
theorem topV_fold {n : ℕ} (hr : (Tab n).Reduces [0] S128) (hb : S1x128.Broadcasts (Tab n)) (G : IVec (Tab n) 32) (V : FVec F (Tab n) .f32) (h) :
    concatenate S16x128 0 [⟨S1x128, colMin hr V⟩, ⟨S1x128, colMin hr (colNext hr hb G V)⟩, ⟨S1x128, colMin hr (colNext hr hb G (colNext hr hb G V))⟩, ⟨S1x128, colMin hr (colNext hr hb G (colNext hr hb G (colNext hr hb G V)))⟩, ⟨S1x128, colMin hr (colNext hr hb G (colNext hr hb G (colNext hr hb G (colNext hr hb G V))))⟩, ⟨S1x128, colMin hr (colNext hr hb G (colNext hr hb G (colNext hr hb G (colNext hr hb G (colNext hr hb G V)))))⟩, ⟨S1x128, colMin hr (colNext hr hb G (colNext hr hb G (colNext hr hb G (colNext hr hb G (colNext hr hb G (colNext hr hb G V))))))⟩, ⟨S1x128, colMin hr (colNext hr hb G (colNext hr hb G (colNext hr hb G (colNext hr hb G (colNext hr hb G (colNext hr hb G (colNext hr hb G V)))))))⟩, ⟨S1x128, colMin hr (colNext hr hb G (colNext hr hb G (colNext hr hb G (colNext hr hb G (colNext hr hb G (colNext hr hb G (colNext hr hb G (colNext hr hb G V))))))))⟩, ⟨S1x128, colMin hr (colNext hr hb G (colNext hr hb G (colNext hr hb G (colNext hr hb G (colNext hr hb G (colNext hr hb G (colNext hr hb G (colNext hr hb G (colNext hr hb G V)))))))))⟩, ⟨S1x128, colMin hr (colNext hr hb G (colNext hr hb G (colNext hr hb G (colNext hr hb G (colNext hr hb G (colNext hr hb G (colNext hr hb G (colNext hr hb G (colNext hr hb G (colNext hr hb G V))))))))))⟩, ⟨S1x128, colMin hr (colNext hr hb G (colNext hr hb G (colNext hr hb G (colNext hr hb G (colNext hr hb G (colNext hr hb G (colNext hr hb G (colNext hr hb G (colNext hr hb G (colNext hr hb G (colNext hr hb G V)))))))))))⟩, ⟨S1x128, colMin hr (colNext hr hb G (colNext hr hb G (colNext hr hb G (colNext hr hb G (colNext hr hb G (colNext hr hb G (colNext hr hb G (colNext hr hb G (colNext hr hb G (colNext hr hb G (colNext hr hb G (colNext hr hb G V))))))))))))⟩, ⟨S1x128, colMin hr (colNext hr hb G (colNext hr hb G (colNext hr hb G (colNext hr hb G (colNext hr hb G (colNext hr hb G (colNext hr hb G (colNext hr hb G (colNext hr hb G (colNext hr hb G (colNext hr hb G (colNext hr hb G (colNext hr hb G V)))))))))))))⟩, ⟨S1x128, colMin hr (colNext hr hb G (colNext hr hb G (colNext hr hb G (colNext hr hb G (colNext hr hb G (colNext hr hb G (colNext hr hb G (colNext hr hb G (colNext hr hb G (colNext hr hb G (colNext hr hb G (colNext hr hb G (colNext hr hb G (colNext hr hb G V))))))))))))))⟩, ⟨S1x128, colMin hr (colNext hr hb G (colNext hr hb G (colNext hr hb G (colNext hr hb G (colNext hr hb G (colNext hr hb G (colNext hr hb G (colNext hr hb G (colNext hr hb G (colNext hr hb G (colNext hr hb G (colNext hr hb G (colNext hr hb G (colNext hr hb G (colNext hr hb G V)))))))))))))))⟩] h = topV hr hb G V := rfl
/-- Their numbers, stacked. -/
theorem topG_fold {n : ℕ} (hr : (Tab n).Reduces [0] S128) (hb : S1x128.Broadcasts (Tab n)) (G : IVec (Tab n) 32) (V : FVec F (Tab n) .f32) (h) :
    concatenate S16x128 0 [⟨S1x128, colArg hr hb G V⟩, ⟨S1x128, colArg hr hb G (colNext hr hb G V)⟩, ⟨S1x128, colArg hr hb G (colNext hr hb G (colNext hr hb G V))⟩, ⟨S1x128, colArg hr hb G (colNext hr hb G (colNext hr hb G (colNext hr hb G V)))⟩, ⟨S1x128, colArg hr hb G (colNext hr hb G (colNext hr hb G (colNext hr hb G (colNext hr hb G V))))⟩, ⟨S1x128, colArg hr hb G (colNext hr hb G (colNext hr hb G (colNext hr hb G (colNext hr hb G (colNext hr hb G V)))))⟩, ⟨S1x128, colArg hr hb G (colNext hr hb G (colNext hr hb G (colNext hr hb G (colNext hr hb G (colNext hr hb G (colNext hr hb G V))))))⟩, ⟨S1x128, colArg hr hb G (colNext hr hb G (colNext hr hb G (colNext hr hb G (colNext hr hb G (colNext hr hb G (colNext hr hb G (colNext hr hb G V)))))))⟩, ⟨S1x128, colArg hr hb G (colNext hr hb G (colNext hr hb G (colNext hr hb G (colNext hr hb G (colNext hr hb G (colNext hr hb G (colNext hr hb G (colNext hr hb G V))))))))⟩, ⟨S1x128, colArg hr hb G (colNext hr hb G (colNext hr hb G (colNext hr hb G (colNext hr hb G (colNext hr hb G (colNext hr hb G (colNext hr hb G (colNext hr hb G (colNext hr hb G V)))))))))⟩, ⟨S1x128, colArg hr hb G (colNext hr hb G (colNext hr hb G (colNext hr hb G (colNext hr hb G (colNext hr hb G (colNext hr hb G (colNext hr hb G (colNext hr hb G (colNext hr hb G (colNext hr hb G V))))))))))⟩, ⟨S1x128, colArg hr hb G (colNext hr hb G (colNext hr hb G (colNext hr hb G (colNext hr hb G (colNext hr hb G (colNext hr hb G (colNext hr hb G (colNext hr hb G (colNext hr hb G (colNext hr hb G (colNext hr hb G V)))))))))))⟩, ⟨S1x128, colArg hr hb G (colNext hr hb G (colNext hr hb G (colNext hr hb G (colNext hr hb G (colNext hr hb G (colNext hr hb G (colNext hr hb G (colNext hr hb G (colNext hr hb G (colNext hr hb G (colNext hr hb G (colNext hr hb G V))))))))))))⟩, ⟨S1x128, colArg hr hb G (colNext hr hb G (colNext hr hb G (colNext hr hb G (colNext hr hb G (colNext hr hb G (colNext hr hb G (colNext hr hb G (colNext hr hb G (colNext hr hb G (colNext hr hb G (colNext hr hb G (colNext hr hb G (colNext hr hb G V)))))))))))))⟩, ⟨S1x128, colArg hr hb G (colNext hr hb G (colNext hr hb G (colNext hr hb G (colNext hr hb G (colNext hr hb G (colNext hr hb G (colNext hr hb G (colNext hr hb G (colNext hr hb G (colNext hr hb G (colNext hr hb G (colNext hr hb G (colNext hr hb G (colNext hr hb G V))))))))))))))⟩, ⟨S1x128, colArg hr hb G (colNext hr hb G (colNext hr hb G (colNext hr hb G (colNext hr hb G (colNext hr hb G (colNext hr hb G (colNext hr hb G (colNext hr hb G (colNext hr hb G (colNext hr hb G (colNext hr hb G (colNext hr hb G (colNext hr hb G (colNext hr hb G (colNext hr hb G V)))))))))))))))⟩] h = topG hr hb G V := rfl
/-- The first attempt's values. -/
theorem top4V_fold (qp : FVec F S128x72 .f32) (r : Rows F) (hr hb) : topV hr hb (candG4 qp r) (candV4 qp r) = top4V qp r := rfl
/-- The first attempt's numbers. -/
theorem top4G_fold (qp : FVec F S128x72 .f32) (r : Rows F) (hr hb) : topG hr hb (candG4 qp r) (candV4 qp r) = top4G qp r := rfl
/-- The stored numbers, as printed. -/
theorem outI_fold (g : IVec S16x128 32) (h h') : shapeCast S1x128x16 (transpose S128x16 ([(1 : Fin 2), (0 : Fin 2)] : List (Fin 2)) g h) h' = outI g := rfl
/-- The stored distances, as printed. -/
theorem outD_fold (d : FVec F S16x128 .f32) (h h') :
  shapeCast S1x128x16 (transpose S128x16 ([(1 : Fin 2), (0 : Fin 2)] : List (Fin 2)) (sqrt (maximumf d (broadcast S16x128 (Scalar.ofBits .f32 0x00000000#32)))) h) h' = outD d := rfl

/-- The counts, as printed. -/
theorem cnt_fold (g : IVec S16x128 32) (h0 h1 h2 h3 h4 h5 h6 h7 h8 h9 h10 h11 h12 h13 h14 h15) : (cntStep (cntStep (cntStep (cntStep (cntStep (cntStep (cntStep (cntStep (cntStep (cntStep (cntStep (cntStep (cntStep (cntStep (cntStep (cntStep (broadcast S128x128 (0#32 : BitVec 32)) (extractStridedSlice S1x128 ![0, 0] g h0)) (extractStridedSlice S1x128 ![1, 0] g h1)) (extractStridedSlice S1x128 ![2, 0] g h2)) (extractStridedSlice S1x128 ![3, 0] g h3)) (extractStridedSlice S1x128 ![4, 0] g h4)) (extractStridedSlice S1x128 ![5, 0] g h5)) (extractStridedSlice S1x128 ![6, 0] g h6)) (extractStridedSlice S1x128 ![7, 0] g h7)) (extractStridedSlice S1x128 ![8, 0] g h8)) (extractStridedSlice S1x128 ![9, 0] g h9)) (extractStridedSlice S1x128 ![10, 0] g h10)) (extractStridedSlice S1x128 ![11, 0] g h11)) (extractStridedSlice S1x128 ![12, 0] g h12)) (extractStridedSlice S1x128 ![13, 0] g h13)) (extractStridedSlice S1x128 ![14, 0] g h14)) (extractStridedSlice S1x128 ![15, 0] g h15)) = cnt g := rfl

/-- The printed body is the short program. -/
theorem body_eq (i : grid0.Coords) (arg2 : Memref sig .tc .vmem S1x128x64 .f32) (harg2 : arg2.IsWhole) (arg3 : Memref sig .tc .vmem S1x16384x64 .f32) (harg3 : arg3.IsWhole) (arg4 : Memref sig .tc .vmem S1x128x16 .i32) (harg4 : arg4.IsWhole) (arg5 : Memref sig .tc .vmem S1x128x16 .f32) (harg5 : arg5.IsWhole) (arg6 : Memref sig .tc .vmem S16384x72 .f32) (harg6 : arg6.IsWhole) :
    cc0__knn_block (F := F) i arg2 harg2 arg3 harg3 arg4 harg4 arg5 harg5 arg6 harg6 = kbody (F := F) i arg2 harg2 arg3 harg3 arg4 harg4 arg5 harg5 arg6 harg6 := by
  by_cases hc : first i = 1#1
  case' pos => simp -implicitDefEqProofs only [kbody, cc0__knn_block, k0_part46, ↓dif_pos hc, ↓dif_pos (show Scalar.cmpi .ne (Scalar.extui (Scalar.cmpi .eq (BitVec.ofNat 32 (i 1).val) 0#32) : BitVec 32) 0#32 = 1#1 from hc), fallback, k0_part47, k0_part48, k0_part49, k0_part50, k0_part51, k0_part52, k0_part53, k0_part54, k0_part55, k0_part56, k0_part57, k0_part58, k0_part59, k0_part60, k0_part61, k0_part62, k0_part63, k0_part64, k0_part65, k0_part66, k0_part67, k0_part68, k0_part69, k0_part70, k0_part71, Prog.bind_lift, Prog.bind_op, Prog.bind_ret, Prog.pure_eq_ret, lanes_fold, padQ_fold, padR_fold, segOf_fold, cntStep_fold,  segMin_fold, segArg_fold, segNext_fold, dist_fold, colMin_fold512, colMin_fold2048, colArg_fold512, colArg_fold2048, colNext_fold512, colNext_fold2048, groupV4_fold, groupG4_fold, candV4_fold, candG4_fold, topV_fold, topG_fold, top4V_fold, top4G_fold, outI_fold, outD_fold, cnt_fold]
  case' neg => simp -implicitDefEqProofs only [kbody, cc0__knn_block, k0_part46, ↓dif_neg hc, ↓dif_neg (show ¬Scalar.cmpi .ne (Scalar.extui (Scalar.cmpi .eq (BitVec.ofNat 32 (i 1).val) 0#32) : BitVec 32) 0#32 = 1#1 from hc), fallback, k0_part47, k0_part48, k0_part49, k0_part50, k0_part51, k0_part52, k0_part53, k0_part54, k0_part55, k0_part56, k0_part57, k0_part58, k0_part59, k0_part60, k0_part61, k0_part62, k0_part63, k0_part64, k0_part65, k0_part66, k0_part67, k0_part68, k0_part69, k0_part70, k0_part71, Prog.bind_lift, Prog.bind_op, Prog.bind_ret, Prog.pure_eq_ret, lanes_fold, padQ_fold, padR_fold, segOf_fold, cntStep_fold,  segMin_fold, segArg_fold, segNext_fold, dist_fold, colMin_fold512, colMin_fold2048, colArg_fold512, colArg_fold2048, colNext_fold512, colNext_fold2048, groupV4_fold, groupG4_fold, candV4_fold, candG4_fold, topV_fold, topG_fold, top4V_fold, top4G_fold, outI_fold, outD_fold, cnt_fold]
  all_goals
    rfl

end Cert.KernelIdeal.Knn

end
-- ==== Proof.Run.lean ====
/- The kernel's run at any interpretation of the floats: what every grid point stores, and the two result arrays at the end. -/
module

public import proofs.«01_k».proof.Proof.Gen.KernelIdeal.Frame
public import proofs.«01_k».proof.Proof.Gen.KernelIdeal.Skeleton
public import Idealize.ShloMosaic.Lib.Claim
public import Idealize.ShloMosaic.Lib.Tactic
public import proofs.«01_k».proof.Proof.Body
public import Idealize.ShloMosaic.Lib.VecWindow
public import Idealize.ShloMosaic.Lib.Pipeline.ValueKit

@[expose] public section

set_option maxRecDepth 16384

noncomputable section

namespace Cert.KernelIdeal.Run

open Cert.KernelIdeal.Gen Cert.KernelIdeal.Knn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition under which the body fills its scratch, in terms of the grid coordinates. -/
abbrev cond0_0 (i : grid0.Coords) : Prop := (Scalar.cmpi .ne (Scalar.extui (Scalar.cmpi .eq (BitVec.ofNat 32 (i 1).val) 0#32)) 0#32) = 1#1
/-- The scratch is filled at the points whose number is a multiple of 8. -/
theorem hcond0_0 : ∀ t : Fin cfg0.N, cond0_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-! ## The staging memrefs -/

/-- The staging memref of each window at point `t`, and that it is a whole buffer. -/
abbrev ms0_0 (t : Fin cfg0.N) : Memref sig .tc .vmem S1x128x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16384x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x16 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x16 .f32 := win0_3.stage (cfg0.slots t 3)
abbrev hs0_3 (t : Fin cfg0.N) : (ms0_3 t).IsWhole := hstage0_3 ((cfg0.slots t 3).cast nbuf0_3)
/-- The kernel's scratch buffer. -/
abbrev scM0_0 : Memref sig .tc .vmem S16384x72 .f32 := Memref.whole cc0_scratch0

/-- The invariant between points: the scratch at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The body table at point `t` is the body. -/
theorem defs₀_row (t : Fin cfg0.N) :
    defs₀ (F := F) .tc cfg0.body (cfg0.bodyArgs t (cfg0.slots t)) = bodyAt0 t := by
  unfold defs₀; rw [Defs.onTc_tc]

/-! ## The body's run -/

/-- Each group of rows lies inside the padded rows. -/
theorem inb_rows (k : Fin 8) : ∀ a, (![2048 * k.val, 0] : Fin 2 → ℕ) a + S2048x72.size a ≤ S16384x72.size a := by
  intro a; fin_cases a
  · show 2048 * k.val + 2048 ≤ 16384
    omega
  · show 0 + 72 ≤ 72
    omega

/-- The eight groups of rows of the padded reference rows. -/
def rowsOf (S : Vec F S16384x72 .f32) : Rows F := fun k => View.ld S (Rect.unit (s := S16384x72) ![2048 * k.val, 0] S2048x72.size (inb_rows k))

/-- A load of a whole value is the value. -/
theorem ld_whole {s : Shape} {e : EltTy} (x : Vec F s e) {off : Fin s.rank → ℕ} (inb : ∀ a, off a + s.size a ≤ s.size a) :
    View.ld x (Rect.unit off s.size inb) = x := by
  funext j
  exact congrArg x (Rect.emb_unit_full inb j)

/-- A load after a store of the whole view reads the stored value. -/
theorem readCov_whole {sig : RefSig} {κ : Kind} {sp : Space} {s : Shape} {e : EltTy} (v : View sig κ sp s e) {off : Fin s.rank → ℕ}
    (inb : ∀ a, off a + s.size a ≤ s.size a) (w : (Rect.unit off s.size inb).shape.Idx → Elt F e) (r : Rect s) :
    v.readCov [⟨Rect.unit off s.size inb, w⟩] r.toLoadRect = View.ld (w : s.Idx → Elt F e) r := by
  show View.ld (v.read (Elt F) (v.writes (Elt F) v.junk [⟨Rect.unit off s.size inb, w⟩])) r = _
  rw [View.read_writes_full]

/-- The eight groups, listed. -/
theorem rowsOf_list (S : Vec F S16384x72 .f32) :
    (![View.ld S (Rect.unit (s := S16384x72) ![0, 0] S2048x72.size inb_S16384x72_S2048x72_0_0), View.ld S (Rect.unit (s := S16384x72) ![2048, 0] S2048x72.size inb_S16384x72_S2048x72_2048_0), View.ld S (Rect.unit (s := S16384x72) ![4096, 0] S2048x72.size inb_S16384x72_S2048x72_4096_0), View.ld S (Rect.unit (s := S16384x72) ![6144, 0] S2048x72.size inb_S16384x72_S2048x72_6144_0), View.ld S (Rect.unit (s := S16384x72) ![8192, 0] S2048x72.size inb_S16384x72_S2048x72_8192_0), View.ld S (Rect.unit (s := S16384x72) ![10240, 0] S2048x72.size inb_S16384x72_S2048x72_10240_0), View.ld S (Rect.unit (s := S16384x72) ![12288, 0] S2048x72.size inb_S16384x72_S2048x72_12288_0), View.ld S (Rect.unit (s := S16384x72) ![14336, 0] S2048x72.size inb_S16384x72_S2048x72_14336_0)] : Rows F) = rowsOf S := by
  funext k; fin_cases k <;> rfl

set_option maxHeartbeats 0 in
/-- The body run at a point where the scratch already holds `S`: both outputs at the results computed from `S`, everything
    else as it was. -/
theorem kernelRun_B (c : Dev nD) (i : grid0.Coords) (arg2 : Memref sig .tc .vmem S1x128x64 .f32) (harg2 : arg2.IsWhole) (arg3 : Memref sig .tc .vmem S1x16384x64 .f32) (harg3 : arg3.IsWhole) (arg4 : Memref sig .tc .vmem S1x128x16 .i32) (harg4 : arg4.IsWhole) (arg5 : Memref sig .tc .vmem S1x128x16 .f32) (harg5 : arg5.IsWhole) (arg6 : Memref sig .tc .vmem S16384x72 .f32) (harg6 : arg6.IsWhole) (hc0 : ¬ first i = 1#1)
    (x0 : Vec F S1x128x64 .f32) (x1 : Vec F S1x16384x64 .f32) (S : Vec F S16384x72 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare S
            ∗ (iprop(owns (c : Thread nD τ) arg2 fullShare x0 ∗ owns (c : Thread nD τ) arg3 fullShare x1 ∗ owns (c : Thread nD τ) arg4 fullShare (resI (padQ x0) (rowsOf S)) ∗ owns (c : Thread nD τ) arg5 fullShare (resD (padQ x0) (rowsOf S)) ∗ owns (c : Thread nD τ) arg6 fullShare S) -∗ K ⟨⟩))
          ⊢ wp frame (wpE (defs₀ (F := F)) Variants.none c none) E (cc0__knn_block i arg2 harg2 arg3 harg3 arg4 harg4 arg5 harg5 arg6 harg6) K := by
    intro E K
    have hq : View.ld x0 (Rect.unit (s := S1x128x64) ![0, 0, 0] ![1, 128, 64] inb_S1x128x64_S1x128x64_0_0_0) = x0 := ld_whole _ _
    rw [body_eq]; unfold kbody
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      unfold kernelRun_B.sl.H2_1
      simp only [View.readAt_eq_ld, harg2.read_unread, harg6.read_unread, hq]
      rw [rowsOf_list]
      unfold resI
      split <;> exact View.read_writes_full _ _ _ _ _
    isplitl [H3]
    · iexists _; isplitr; swap; · iexact H3
      ipureintro
      unfold kernelRun_B.sl.H3_1
      simp only [View.readAt_eq_ld, harg2.read_unread, harg6.read_unread, hq]
      rw [rowsOf_list]
      unfold resD
      split <;> exact View.read_writes_full _ _ _ _ _
    iexists _; isplitr; swap; · iexact HS0
    ipureintro; exact harg6.read_unread _

set_option maxHeartbeats 0 in
/-- The body run at a point where the scratch is filled first: both outputs at the results computed from the padded rows,
    which the scratch holds at the end. -/
theorem kernelRun_A (c : Dev nD) (i : grid0.Coords) (arg2 : Memref sig .tc .vmem S1x128x64 .f32) (harg2 : arg2.IsWhole) (arg3 : Memref sig .tc .vmem S1x16384x64 .f32) (harg3 : arg3.IsWhole) (arg4 : Memref sig .tc .vmem S1x128x16 .i32) (harg4 : arg4.IsWhole) (arg5 : Memref sig .tc .vmem S1x128x16 .f32) (harg5 : arg5.IsWhole) (arg6 : Memref sig .tc .vmem S16384x72 .f32) (harg6 : arg6.IsWhole) (hc0 : first i = 1#1)
    (x0 : Vec F S1x128x64 .f32) (x1 : Vec F S1x16384x64 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare (resI (padQ x0) (rowsOf (padR x1))) ∗ owns (c : Thread nD τ) arg5 fullShare (resD (padQ x0) (rowsOf (padR x1))) ∗ owns (c : Thread nD τ) arg6 fullShare (padR x1)) -∗ K ⟨⟩))
          ⊢ wp frame (wpE (defs₀ (F := F)) Variants.none c none) E (cc0__knn_block i arg2 harg2 arg3 harg3 arg4 harg4 arg5 harg5 arg6 harg6) K := by
    intro E K
    have hq : View.ld x0 (Rect.unit (s := S1x128x64) ![0, 0, 0] ![1, 128, 64] inb_S1x128x64_S1x128x64_0_0_0) = x0 := ld_whole _ _
    have hr : View.ld x1 (Rect.unit (s := S1x16384x64) ![0, 0, 0] ![1, 16384, 64] inb_S1x16384x64_S1x16384x64_0_0_0) = x1 := ld_whole _ _
    have hS : ∀ (o : Fin 2 → ℕ) (w : Vec F S16384x72 .f32) (inb : ∀ a, o a + (![2048, 72] : Fin 2 → ℕ) a ≤ S16384x72.size a),
        arg6.view.readCov [⟨Rect.unit (s := S16384x72) ![0, 0] ![16384, 72] inb_S16384x72_S16384x72_0_0, w⟩] (Rect.unit o ![2048, 72] inb).toLoadRect
          = View.ld w (Rect.unit (s := S16384x72) o ![2048, 72] inb) := fun o w inb => readCov_whole _ _ _ _
    rw [body_eq]; unfold kbody
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg2.eq_unread hf0; obtain rfl := harg3.eq_unread hf1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      unfold kernelRun_A.sl.H2_1
      simp only [View.readAt_eq_ld, harg2.read_unread, harg3.read_unread, hq, hr, hS]
      rw [rowsOf_list]
      unfold resI
      split <;> exact View.read_writes_full _ _ _ _ _
    isplitl [H3]
    · iexists _; isplitr; swap; · iexact H3
      ipureintro
      unfold kernelRun_A.sl.H3_1
      simp only [View.readAt_eq_ld, harg2.read_unread, harg3.read_unread, hq, hr, hS]
      rw [rowsOf_list]
      unfold resD
      split <;> exact View.read_writes_full _ _ _ _ _
    iexists _; isplitr; swap; · iexact HS0
    ipureintro
    unfold kernelRun_A.sl.HS0_1
    rw [View.read_writes_full, View.readAt_eq_ld, harg3.read_unread]
    exact congrArg padR hr

/-! ## The blocks the points read -/

/-- The queries of batch `b`, block `i`. -/
def qB (c : Dev nD) (b : Fin 2) (i : Fin 8) : Vec F S1x128x64 .f32 := fun y =>
  m ((c : Thread nD τ).loc main_arg0) (ix3 b ⟨i.val * 128 + (y 1).val, by have := i.isLt; have h : (y 1).val < 128 := (y 1).isLt; omega⟩ (y 2) : S2x1024x64.Idx)

/-- The reference rows of batch `b`. -/
def rB (c : Dev nD) (b : Fin 2) : Vec F S1x16384x64 .f32 := fun y =>
  m ((c : Thread nD τ).loc main_arg1) (ix3 b (y 1) (y 2) : S2x16384x64.Idx)

/-- The batch of a point, -/
def bat (t : Fin cfg0.N) : Fin 2 := ⟨t.val / 8, by have := lt_of_lt_of_eq t.isLt (show cfg0.N = 16 from N_0); omega⟩
/-- and its block of queries. -/
def qrt (t : Fin cfg0.N) : Fin 8 := ⟨t.val % 8, by omega⟩

/-- The grid coordinates of a point. -/
theorem coords_eq (t : Fin cfg0.N) : (grid0.coords t 0).val = (bat t).val ∧ (grid0.coords t 1).val = (qrt t).val := by
  have ht : t.val < 16 := lt_of_lt_of_eq t.isLt (show cfg0.N = 16 from N_0)
  have e0 : (grid0.coords t 0).val = t.val / 8 % 2 := Pipeline.Grid.coords_val t 0 (by decide) rfl
  have e1 : (grid0.coords t 1).val = t.val / 1 % 8 := Pipeline.Grid.coords_val t 1 (by decide) rfl
  constructor
  · rw [e0]; show _ = t.val / 8; omega
  · rw [e1]; show _ = t.val % 8; omega

/-- The index maps at a point. -/
theorem idx0 (t : Fin cfg0.N) : cc0_transform_0 (grid0.coords t) = ![(bat t).val, (qrt t).val, 0] := by
  have h := coords_eq t
  have hb := (bat t).isLt
  have hq := (qrt t).isLt
  unfold cc0_transform_0
  simp only [h.1, h.2, BitVec.toNat_ofNat]
  rw [Nat.mod_eq_of_lt (by omega), Nat.mod_eq_of_lt (by omega)]
theorem idx1 (t : Fin cfg0.N) : cc0_transform_1 (grid0.coords t) = ![(bat t).val, 0, 0] := by
  have h := coords_eq t
  have hb := (bat t).isLt
  unfold cc0_transform_1
  simp only [h.1, BitVec.toNat_ofNat]
  rw [Nat.mod_eq_of_lt (by omega)]

/-- The query block of a point. -/
theorem iblk0_eq (c : Dev nD) (t : Fin cfg0.N) : (iblk m c 0 t : Vec F S1x128x64 .f32) = qB m c (bat t) (qrt t) := by
  funext y
  have e : win0_0.index t = ![(bat t).val, (qrt t).val, 0] := idx0 t
  unfold iblk qB
  show V m c main_arg0 ((win0_0.blk t).view.emb y) = _
  refine congrArg (m ((c : Thread nD τ).loc main_arg0)) ?_
  funext a
  apply Fin.ext
  blk_simp
  rw [e]
  fin_cases a
  · show (bat t).val * 1 + (y 0).val = (bat t).val
    have : (y 0).val < 1 := (y 0).isLt
    omega
  · rfl
  · show 0 * 64 + (y 2).val = (y 2).val
    omega

/-- The rows of a point. -/
theorem iblk1_eq (c : Dev nD) (t : Fin cfg0.N) : (iblk m c 1 t : Vec F S1x16384x64 .f32) = rB m c (bat t) := by
  funext y
  have e : win0_1.index t = ![(bat t).val, 0, 0] := idx1 t
  unfold iblk rB
  show V m c main_arg1 ((win0_1.blk t).view.emb y) = _
  refine congrArg (m ((c : Thread nD τ).loc main_arg1)) ?_
  funext a
  apply Fin.ext
  blk_simp
  rw [e]
  fin_cases a
  · show (bat t).val * 1 + (y 0).val = (bat t).val
    have : (y 0).val < 1 := (y 0).isLt
    omega
  · show 0 * 16384 + (y 1).val = (y 1).val
    omega
  · show 0 * 64 + (y 2).val = (y 2).val
    omega

/-! ## The proof data -/

/-- What a point stores. -/
def ptI (c : Dev nD) (b : Fin 2) (i : Fin 8) : Vec F S1x128x16 .i32 := resI (F := F) (padQ (qB m c b i)) (rowsOf (padR (rB m c b)))
def ptD (c : Dev nD) (b : Fin 2) (i : Fin 8) : Vec F S1x128x16 .f32 := resD (F := F) (padQ (qB m c b i)) (rowsOf (padR (rB m c b)))

/-- What the scratch holds before point `n`: anything at the first point of a batch, later the batch's padded rows. -/
def inv (c : Dev nD) (n : ℕ) : sProp 𝕄 :=
  if n % 8 = 0 then Pipeline.ΦA spec0 c
  else iprop(owns (c : Thread nD τ) scM0_0 fullShare (padR (rB m c ⟨n / 8 % 2, by omega⟩)) ∗ (∃ r, prngReg c r))

/-- The proof data: the arrays as launched, the inputs left in place, the outputs at the point's results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => ptI m c (bat t) (qrt t)
    | ⟨3, h⟩ => ptD m c (bat t) (qrt t)
  Φ t := inv m c t.val
  q _ := fullShare
  owed _ := 0

/-- The arrays are the launch contents. -/
theorem A_eq (c : Dev nD) (w : Fin cfg0.W) : (dats m 0 c).A w = V m c (Pipeline.arrRef spec0 w) := by
  dsimp only [dats]

/-- What the body leaves in each window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = ptI m c (bat t) (qrt t) := by dsimp only [dats]
theorem after0_3 (c : Dev nD) (t : Fin cfg0.N) : (dats m 0 c).after 3 t = ptD m c (bat t) (qrt t) := by dsimp only [dats]

/-- Each input staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at every point -/

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The batch's padded rows and the generator register, as what the point leaves for the next one. -/
theorem inv_succ (c : Dev nD) (t : Fin cfg0.N) :
    iprop(owns (c : Thread nD τ) scM0_0 fullShare (padR (rB m c (bat t))) ∗ (∃ r, prngReg c r)) ⊢ (inv m c (t.val + 1) : sProp 𝕄) := by
  have hN : t.val < 16 := lt_of_lt_of_eq t.isLt (show cfg0.N = 16 from N_0)
  unfold inv
  by_cases h : (t.val + 1) % 8 = 0
  · rw [if_pos h, PhiA0_eq]
    iintro ⟨HS, Hg⟩
    isplitl [HS]
    · iexists _; iexact HS
    iexact Hg
  · rw [if_neg h]
    have e : (⟨(t.val + 1) / 8 % 2, by omega⟩ : Fin 2) = bat t := Fin.ext (by show (t.val + 1) / 8 % 2 = t.val / 8; omega)
    rw [e]

set_option maxHeartbeats 800000 in
/-- The body is correct at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = inv m c (t.val + 1) from rfl,
    show (dats m 0 c).owesAt () t.succ = (dats m 0 c).owesAt () t.castSucc from rfl,
    after0_0, after0_1, after0_2, after0_3,
    show (dats m 0 c).Φ t.castSucc = inv m c t.val from rfl]
  have hN : t.val < 16 := lt_of_lt_of_eq t.isLt (show cfg0.N = 16 from N_0)
  unfold ptI ptD
  rw [← iblk0_eq, ← iblk1_eq]
  by_cases h0 : t.val % 8 = 0
  · rw [show inv m c t.val = Pipeline.ΦA spec0 c from if_pos h0, PhiA0_eq]
    iintro ⟨⟨HS0, Hg⟩, Ho, ⟨%d0, H0⟩, ⟨%d1, H1⟩, ⟨%d2, H2⟩, ⟨%d3, H3⟩⟩
    iapply ((kernelRun_A c (grid0.coords t) _ _ _ _ _ _ _ _ _ _ ((hcond0_0 t).mpr h0) (iblk m c 0 t) (iblk m c 1 t)) Set.univ _)
    isplitl [H0]; · iexact H0
    isplitl [H1]; · iexact H1
    isplitl [H2]; · iexists _; iexact H2
    isplitl [H3]; · iexists _; iexact H3
    isplitl [HS0]; · iexact HS0
    iintro ⟨H0, H1, H2, H3, HS0⟩
    isplitl [HS0 Hg]
    · iapply (inv_succ m c t)
      rw [← iblk1_eq]
      isplitl [HS0]
      · iexact HS0
      iexact Hg
    isplitl [Ho]; · iexact Ho
    isplitl [H0]; · iexact H0
    isplitl [H1]; · iexact H1
    isplitl [H2]; · iexact H2
    iexact H3
  · have e : (⟨t.val / 8 % 2, by omega⟩ : Fin 2) = bat t := Fin.ext (by show t.val / 8 % 2 = t.val / 8; omega)
    rw [show inv m c t.val = iprop(owns (c : Thread nD τ) scM0_0 fullShare (padR (rB m c (bat t))) ∗ (∃ r, prngReg c r)) from
      (if_neg h0).trans (by rw [e]), ← iblk1_eq]
    iintro ⟨⟨HS0, Hg⟩, Ho, ⟨%d0, H0⟩, ⟨%d1, H1⟩, ⟨%d2, H2⟩, ⟨%d3, H3⟩⟩
    iapply ((kernelRun_B c (grid0.coords t) _ _ _ _ _ _ _ _ _ _ (fun h => h0 ((hcond0_0 t).mp h)) (iblk m c 0 t) (iblk m c 1 t) (padR (iblk m c 1 t))) Set.univ _)
    isplitl [H0]; · iexact H0
    isplitl [H1]; · iexact H1
    isplitl [H2]; · iexists _; iexact H2
    isplitl [H3]; · iexists _; iexact H3
    isplitl [HS0]; · iexact HS0
    iintro ⟨H0, H1, H2, H3, HS0⟩
    isplitl [HS0 Hg]
    · iapply (inv_succ m c t)
      rw [← iblk1_eq]
      isplitl [HS0]
      · iexact HS0
      iexact Hg
    isplitl [Ho]; · iexact Ho
    isplitl [H0]; · iexact H0
    isplitl [H1]; · iexact H1
    isplitl [H2]; · iexact H2
    iexact H3

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- The launch, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [show (dats m 0 c).Φ 0 = inv m c 0 from rfl]; exact .rfl)
    (hout := fun c => by
      show inv m c cfg0.N ⊢ _
      rw [show inv m c cfg0.N = Pipeline.ΦA spec0 c from if_pos (by rw [show cfg0.N = 16 from N_0])])

/-! ## The result arrays -/

/-- The numbers the kernel leaves, whole. -/
def outArrI (c : Dev nD) : Buf (Elt F) ((c : Thread nD τ).loc main_v0_0) := fun j : S2x1024x16.Idx =>
  ptI m c (j 0) ⟨(j 1).val / 128, by have h : (j 1).val < 1024 := (j 1).isLt; omega⟩
    (ix3 (0 : Fin 1) ⟨(j 1).val % 128, by omega⟩ (j 2) : S1x128x16.Idx)
/-- The distances the kernel leaves, whole. -/
def outArrD (c : Dev nD) : Buf (Elt F) ((c : Thread nD τ).loc main_v0_1) := fun j : S2x1024x16.Idx =>
  ptD m c (j 0) ⟨(j 1).val / 128, by have h : (j 1).val < 1024 := (j 1).isLt; omega⟩
    (ix3 (0 : Fin 1) ⟨(j 1).val % 128, by omega⟩ (j 2) : S1x128x16.Idx)

/-- An index of a result array sits in the block of its batch and its 128 queries. -/
theorem outArrI_at (c : Dev nD) (b : Fin 2) (i : Fin 8) (y : S1x128x16.Idx) (j : S2x1024x16.Idx)
    (h0 : (j 0).val = b.val) (h1 : (j 1).val = i.val * 128 + (y 1).val) (h2 : (j 2).val = (y 2).val) :
    outArrI m c j = ptI m c b i y ∧ outArrD m c j = ptD m c b i y := by
  have hy : (y 1).val < 128 := (y 1).isLt
  have e0 : j 0 = b := Fin.ext h0
  have e1 : ∀ h, (⟨(j 1).val / 128, h⟩ : Fin 8) = i := fun h => Fin.ext (by show (j 1).val / 128 = _; omega)
  have e2 : ∀ h, (ix3 (0 : Fin 1) ⟨(j 1).val % 128, h⟩ (j 2) : S1x128x16.Idx) = y := fun h => by
    funext a; fin_cases a
    · exact Fin.ext (by show 0 = (y 0).val; have : (y 0).val < 1 := (y 0).isLt; omega)
    · exact Fin.ext (by show (j 1).val % 128 = (y 1).val; omega)
    · exact Fin.ext h2
  unfold outArrI outArrD
  rw [e0, e1, e2]
  exact ⟨rfl, rfl⟩

/-- The numbers' array ends as stated, -/
theorem final_I (c : Dev nD) : (dats m 0 c).arrAt 2 cfg0.N = outArrI m c := by
  refine (dats m 0 c).arrAt_eq_of_covers 2 _ (by decide +kernel) fun t hf y => ?_
  have e : win0_2.index t = ![(bat t).val, (qrt t).val, 0] := idx0 t
  blk_simp
  rw [after0_2]
  refine (outArrI_at m c (bat t) (qrt t) y _ ?_ ?_ ?_).1.symm
  · blk_simp; rw [e]; rfl
  · blk_simp; rw [e]; rfl
  · blk_simp; rw [e]; show 0 * 16 + (y 2).val = _; omega

/-- and so does the distances'. -/
theorem final_D (c : Dev nD) : (dats m 0 c).arrAt 3 cfg0.N = outArrD m c := by
  refine (dats m 0 c).arrAt_eq_of_covers 3 _ (by decide +kernel) fun t hf y => ?_
  have e : win0_3.index t = ![(bat t).val, (qrt t).val, 0] := idx0 t
  blk_simp
  rw [after0_3]
  refine (outArrI_at m c (bat t) (qrt t) y _ ?_ ?_ ?_).2.symm
  · blk_simp; rw [e]; rfl
  · blk_simp; rw [e]; rfl
  · blk_simp; rw [e]; show 0 * 16 + (y 2).val = _; omega

/-- The kernel's run: both results as stated, the arguments unchanged, every counter at zero. -/
theorem run : θ_run defs (onTc (τ := τ) (main (F := F))) ⟨m, fun _ => 0, ρ⟩ (fun r => (∀ c : Dev nD,
      r.2.mem ((c.tc : Thread nD τ).loc main_v0_0) = outArrI m c
      ∧ r.2.mem ((c.tc : Thread nD τ).loc main_v0_1) = outArrD m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 2).trans (final_I m c), ((h.1 c).1 3).trans (final_D m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩, h.2⟩)
    (run_main_quiescent m ρ)

end Cert.KernelIdeal.Run

end
-- ==== Proof.Rank.lean ====
/- Ranks in a finite family of keys: how many keys are smaller. The repeated extraction of the least remaining value,
   ties going to the least number, removes the elements in the order of their ranks; and the ranks inside a table of
   candidates are the ranks in the whole family wherever no segment of the family has run out of candidates. -/
module

public import Mathlib.Data.Fintype.Card
public import Mathlib.Data.EReal.Basic
public import Mathlib.Data.Prod.Lex
public import Mathlib.Tactic.Linarith
public import Mathlib.Data.Fintype.EquivFin
public import Mathlib.Data.Finset.Fold

@[expose] public section

namespace Cert.Rank

section Rank

variable {T α : Type} [Fintype T] [LinearOrder α]

/-- How many keys are smaller than the key of `t`. -/
def rank (K : T → α) (t : T) : ℕ := (Finset.univ.filter fun u => K u < K t).card

/-- Ranks compare as the keys do. -/
theorem rank_lt_iff (K : T → α) (s t : T) : rank K s < rank K t ↔ K s < K t := by
  constructor
  · intro h
    by_contra hc
    have hc := not_lt.1 hc
    refine absurd h (not_lt.2 (Finset.card_le_card fun u hu => ?_))
    simp only [Finset.mem_filter, Finset.mem_univ, true_and] at hu ⊢
    exact lt_of_lt_of_le hu hc
  · intro h
    refine Finset.card_lt_card ⟨fun u hu => ?_, fun hs => ?_⟩
    · simp only [Finset.mem_filter, Finset.mem_univ, true_and] at hu ⊢
      exact hu.trans h
    · have := hs (Finset.mem_filter.2 ⟨Finset.mem_univ s, h⟩)
      simp at this

/-- A rank is below the number of keys. -/
theorem rank_lt_card (K : T → α) (t : T) : rank K t < Fintype.card T :=
  Finset.card_lt_card ⟨Finset.filter_subset _ _, fun hs => by simpa using hs (Finset.mem_univ t)⟩

/-- Distinct keys have distinct ranks. -/
theorem rank_injective {K : T → α} (hK : Function.Injective K) : Function.Injective (rank K) := fun s t h =>
  hK (le_antisymm (not_lt.1 fun hc => absurd ((rank_lt_iff K t s).2 hc) (by omega))
    (not_lt.1 fun hc => absurd ((rank_lt_iff K s t).2 hc) (by omega)))

/-- Every number below the number of keys is a rank. -/
theorem exists_rank {K : T → α} (hK : Function.Injective K) {k : ℕ} (hk : k < Fintype.card T) : ∃ t, rank K t = k := by
  have hb : Function.Bijective (fun t => (⟨rank K t, rank_lt_card K t⟩ : Fin (Fintype.card T))) :=
    (Fintype.bijective_iff_injective_and_card _).2 ⟨fun s t h => rank_injective hK (Fin.ext_iff.1 h), by simp⟩
  obtain ⟨t, ht⟩ := hb.2 ⟨k, hk⟩
  exact ⟨t, Fin.ext_iff.1 ht⟩

/-- The element of a rank. -/
noncomputable def nth {K : T → α} (hK : Function.Injective K) (k : Fin (Fintype.card T)) : T := (exists_rank hK k.isLt).choose

theorem rank_nth {K : T → α} (hK : Function.Injective K) (k : Fin (Fintype.card T)) : rank K (nth hK k) = k :=
  (exists_rank hK k.isLt).choose_spec

theorem nth_eq {K : T → α} (hK : Function.Injective K) (k : Fin (Fintype.card T)) {t : T} (h : rank K t = k) :
    nth hK k = t := rank_injective hK ((rank_nth hK k).trans h.symm)

/-- A rank depends on the order of the keys only. -/
theorem rank_congr {β : Type} [LinearOrder β] {K : T → α} {K' : T → β} (h : ∀ u t, K u < K t ↔ K' u < K' t) (t : T) :
    rank K t = rank K' t := congrArg Finset.card (Finset.filter_congr fun u _ => h u t)

/-- Ranks in a table of some elements of a family cut into segments: an element of the table has its rank in the
    family, if every element missing from the table has `cap` smaller ones of its segment in it, and fewer than `cap`
    of the table's elements of each segment are smaller than the given one. -/
theorem rank_table {P S : Type} [Fintype P] [DecidableEq S] (K : T → α) (seg : T → S) (cap : ℕ)
    (elem : P → T) (he : Function.Injective elem)
    (hcov : ∀ t, (∀ p, elem p ≠ t) → ∃ Q : Finset P, cap ≤ Q.card ∧ ∀ p ∈ Q, seg (elem p) = seg t ∧ K (elem p) < K t)
    (p : P) (hfew : ∀ c, (Finset.univ.filter fun p' => K (elem p') < K (elem p) ∧ seg (elem p') = c).card < cap) :
    rank K (elem p) = rank (fun p => K (elem p)) p := by
  unfold rank
  rw [← Finset.card_map ⟨elem, he⟩]
  congr 1
  ext u
  simp only [Finset.mem_filter, Finset.mem_univ, true_and, Finset.mem_map, Function.Embedding.coeFn_mk]
  constructor
  · intro hu
    by_contra hc
    obtain ⟨Q, hQ, hQ'⟩ := hcov u fun p' hp' => hc ⟨p', by rw [hp']; exact hu, hp'⟩
    refine absurd (hfew (seg u)) (not_lt.2 (hQ.trans (Finset.card_le_card fun p' hp' => ?_)))
    simp only [Finset.mem_filter, Finset.mem_univ, true_and]
    exact ⟨(hQ' p' hp').2.trans hu, (hQ' p' hp').1⟩
  · rintro ⟨p', hp', rfl⟩
    exact hp'

end Rank

/-! ## Repeated extraction -/

section Extract

variable {T : Type} [Fintype T] (v : T → EReal) (g : T → ℕ)

/-- The key of an element: its value, then its number. -/
def key (t : T) : EReal ×ₗ ℕ := toLex (v t, g t)

theorem key_lt (s t : T) : key v g s < key v g t ↔ v s < v t ∨ v s = v t ∧ g s < g t := Prod.Lex.toLex_lt_toLex

theorem key_le (s t : T) : key v g s ≤ key v g t ↔ v s < v t ∨ v s = v t ∧ g s ≤ g t := Prod.Lex.toLex_le_toLex

theorem key_injective {g : T → ℕ} (hg : Function.Injective g) : Function.Injective (key v g) := fun s t h =>
  hg (congrArg (fun x => (ofLex x).2) h)

/-- The values after `k` extractions: those of ranks below `k` are removed. -/
noncomputable def remaining (k : ℕ) (t : T) : EReal := if rank (key v g) t < k then ⊤ else v t

theorem remaining_zero (t : T) : remaining v g 0 t = v t := if_neg (Nat.not_lt_zero _)

variable {v g} {k : ℕ} {t₀ : T}

/-- The element of rank `k` is the least remaining after `k` extractions. -/
theorem remaining_self (h : rank (key v g) t₀ = k) : remaining v g k t₀ = v t₀ := if_neg (by omega)

theorem le_remaining (h : rank (key v g) t₀ = k) (t : T) : v t₀ ≤ remaining v g k t := by
  unfold remaining
  split
  · exact le_top
  · rename_i hk
    have : key v g t₀ ≤ key v g t := not_lt.1 fun hc => hk (h ▸ (rank_lt_iff _ _ _).2 hc)
    rcases (key_le v g t₀ t).1 this with h | h
    · exact h.le
    · exact h.1.le

/-- Among the least remaining it has the least number. -/
theorem number_le (h : rank (key v g) t₀ = k) (hfin : v t₀ ≠ ⊤) (t : T) (ht : remaining v g k t = v t₀) : g t₀ ≤ g t := by
  unfold remaining at ht
  split at ht
  · exact absurd ht.symm hfin
  · rename_i hk
    have : key v g t₀ ≤ key v g t := not_lt.1 fun hc => hk (h ▸ (rank_lt_iff _ _ _).2 hc)
    rcases (key_le v g t₀ t).1 this with h | h
    · exact absurd ht h.ne'
    · exact h.2

/-- Removing the element of its number is one more extraction. -/
theorem remaining_succ (hg : Function.Injective g) (h : rank (key v g) t₀ = k) (t : T) :
    remaining v g (k + 1) t = if g t = g t₀ then ⊤ else remaining v g k t := by
  unfold remaining
  by_cases he : g t = g t₀
  · rw [if_pos he, if_pos (by rw [hg he]; omega)]
  · rw [if_neg he]
    have : rank (key v g) t ≠ k := fun hc => he (congrArg g (rank_injective (key_injective v hg) (hc.trans h.symm)))
    by_cases h' : rank (key v g) t < k
    · rw [if_pos h', if_pos (by omega)]
    · rw [if_neg h', if_neg (by omega)]

end Extract

/-! ## Folds of a minimum -/

/-- A fold of the minimum is the value that is attained and below the others and the start. -/
theorem fold_min_eq {T β : Type} [LinearOrder β] (S : Finset T) (f : T → β) (b x : β) (hb : x ≤ b) (t₀ : T) (ht₀ : t₀ ∈ S)
    (hx : f t₀ = x) (hle : ∀ t ∈ S, x ≤ f t) : S.fold min b f = x :=
  le_antisymm (Finset.fold_min_le x |>.2 (Or.inr ⟨t₀, ht₀, hx.le⟩)) (Finset.le_fold_min x |>.2 ⟨hb, hle⟩)

end Cert.Rank

end
-- ==== Proof.Pick.lean ====
/- The repeated minimum of one segment and of one column of candidates, at the exact values: after `k` steps what is left
   is what `Rank.remaining` leaves, and the step finds the element of rank `k`. -/
module

public import proofs.«01_k».proof.Proof.Knn
public import proofs.«01_k».proof.Proof.Rank
public import Idealize.ShloMosaic.Lib.Pointwise

@[expose] public section

set_option maxRecDepth 16384

noncomputable section

namespace Cert.KernelIdeal.Knn

open Idealize.ShloMosaic
open Cert.KernelIdeal Cert.KernelIdeal.Gen Cert.Rank

/-- The pattern the kernel removes with is plus infinity. -/
theorem ofBits_inf : Ideal.ofBits .f32 (0x7F800000#32 : BitVec 32) = ⊤ := by
  simp [Ideal.ofBits, Ideal.ieee]

/-- The exact value of a small word, read signed. -/
theorem toInt_small {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

/-- The signed minimum of two words has the lesser signed value. -/
theorem toInt_minsi (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.1 h)]

/-- A fold of the signed minimum is the word that is attained and least. -/
theorem fold_minsi_eq {T : Type} [Fintype T] (f : T → BitVec 32) (b x : BitVec 32) (hb : x.toInt ≤ b.toInt) (t₀ : T)
    (hx : f t₀ = x) (hle : ∀ t, x.toInt ≤ (f t).toInt) : Finset.univ.fold IntOp.minsi b f = x := by
  apply BitVec.eq_of_toInt_eq
  rw [← Finset.fold_hom (m := BitVec.toInt) (op' := min) toInt_minsi]
  exact fold_min_eq _ _ _ _ hb t₀ (Finset.mem_univ _) (by rw [hx]) fun t _ => hle t

section Step

variable {T : Type} [Fintype T] {v : T → EReal} {g : T → ℕ} {k : ℕ} {t₀ : T}

/-- The least remaining value is that of the element of rank `k`. -/
theorem fold_remaining (h : rank (key v g) t₀ = k) (f : T → EReal) (hf : ∀ t, f t = remaining v g k t) :
    Finset.univ.fold min (Ideal.ofBits .f32 (0x7F800000#32 : BitVec 32)) f = v t₀ :=
  fold_min_eq _ _ _ _ (by rw [ofBits_inf]; exact le_top) t₀ (Finset.mem_univ _) (by rw [hf, remaining_self h])
    fun t _ => by rw [hf]; exact le_remaining h t

/-- The least number where it stands is that element's. -/
theorem fold_number (hg : ∀ t, g t < 2 ^ 30) (h : rank (key v g) t₀ = k) (hfin : v t₀ ≠ ⊤) (f : T → EReal)
    (hf : ∀ t, f t = remaining v g k t) (n : T → BitVec 32) (hn : ∀ t, n t = BitVec.ofNat 32 (g t)) :
    Finset.univ.fold IntOp.minsi 2147483647#32 (fun t => if f t = v t₀ then n t else 1073741824#32)
      = BitVec.ofNat 32 (g t₀) := by
  have h0 := hg t₀
  refine fold_minsi_eq _ _ _ ?_ t₀ ?_ fun t => ?_
  · rw [toInt_small (by omega)]
    have : (2147483647#32 : BitVec 32).toInt = 2147483647 := by decide
    omega
  · rw [hf, remaining_self h, if_pos rfl, hn]
  · rw [toInt_small (by omega), hf]
    split
    · rename_i ht
      have := number_le h hfin t ht
      have := hg t
      rw [hn, toInt_small (by omega)]
      omega
    · have : (1073741824#32 : BitVec 32).toInt = 1073741824 := by decide
      omega

end Step

/-- Small words are equal as their numbers are. -/
theorem ofNat_eq_iff {a b : ℕ} (ha : a < 2 ^ 32) (hb : b < 2 ^ 32) : BitVec.ofNat 32 a = BitVec.ofNat 32 b ↔ a = b := by
  constructor
  · intro h
    have := congrArg BitVec.toNat h
    simp only [BitVec.toNat_ofNat] at this
    omega
  · rintro rfl; rfl

/-- A select on an equality of two words is the `if`. -/
theorem select_eq {α : Type} (x y : BitVec 32) (a b : α) : Scalar.select (IntOp.cmpi .eq x y) a b = if x = y then a else b := by
  by_cases h : x = y
  · simp [Scalar.select, IntOp.cmpi, h]
  · rw [if_neg h]; simp [Scalar.select, IntOp.cmpi, beq_eq_false_iff_ne.2 h]

/-! ## One segment -/

section Segment

variable (W : FVec Ideal S16x128x128 .f32) (s : Fin 16) (q : Fin 128)

/-- One segment's values for one query. -/
def lane (l : Fin 128) : EReal := W (ix3 s l q)

/-- After `k` steps the `k` least are removed. -/
theorem segRem_apply (hW : ∀ l, lane W s q l ≠ ⊤) (k : ℕ) (hk : k ≤ 128) (l : Fin 128) :
    segRem W k (ix3 s l q) = remaining (lane W s q) Fin.val k l := by
  induction k generalizing l with
  | zero => exact (remaining_zero (lane W s q) Fin.val l).symm
  | succ k ih =>
    obtain ⟨l₀, h₀⟩ := exists_rank (key_injective (lane W s q) Fin.val_injective) (k := k) (by simpa using hk)
    have hm : segMin (segRem W k) (ix2 s q) = lane W s q l₀ := by
      pointwise [segMin]
      exact fold_remaining h₀ _ fun l => ih (by omega) l
    have ha : segArg (segRem W k) (ix2 s q) = BitVec.ofNat 32 l₀.val := by
      pointwise [segArg, lanes]
      rw [hm]
      exact fold_number (fun t => by omega) h₀ (hW l₀) _ (fun l => ih (by omega) l) _ fun _ => rfl
    rw [remaining_succ Fin.val_injective h₀]
    show segNext (segRem W k) (ix3 s l q) = _
    pointwise [segNext, lanes]
    rw [ha, select_eq, ofBits_inf, ih (by omega)]
    exact if_congr (ofNat_eq_iff (by omega) (by omega)) rfl rfl

/-- The `k`-th step finds the value of the lane of rank `k`, -/
theorem segMin_apply (hW : ∀ l, lane W s q l ≠ ⊤) (k : ℕ) (hk : k ≤ 128) (l₀ : Fin 128)
    (h₀ : rank (key (lane W s q) Fin.val) l₀ = k) : segMin (segRem W k) (ix2 s q) = lane W s q l₀ := by
  pointwise [segMin]
  exact fold_remaining h₀ _ fun l => segRem_apply W s q hW k hk l

/-- and that lane. -/
theorem segArg_apply (hW : ∀ l, lane W s q l ≠ ⊤) (k : ℕ) (hk : k ≤ 128) (l₀ : Fin 128)
    (h₀ : rank (key (lane W s q) Fin.val) l₀ = k) : segArg (segRem W k) (ix2 s q) = BitVec.ofNat 32 l₀.val := by
  pointwise [segArg, lanes]
  rw [segMin_apply W s q hW k hk l₀ h₀]
  exact fold_number (fun t => by omega) h₀ (hW l₀) _ (fun l => segRem_apply W s q hW k hk l) _ fun _ => rfl

end Segment

/-! ## One column of candidates -/

section Column

variable {n : ℕ} (hr : (Tab n).Reduces [0] S128) (hb : S1x128.Broadcasts (Tab n))
  (G : IVec (Tab n) 32) (V : FVec Ideal (Tab n) .f32) (q : Fin 128)

/-- One column's values. -/
def col (i : Fin n) : EReal := V (ix2 i q)

variable {g : Fin n → ℕ} (hG : ∀ i, G (ix2 i q) = BitVec.ofNat 32 (g i)) (hg : Function.Injective g) (hlt : ∀ i, g i < 2 ^ 30)
  (hV : ∀ i, col V q i ≠ ⊤)

include hG hg hlt hV

/-- After `k` steps the `k` least are removed. -/
theorem colRem_apply (k : ℕ) (hk : k ≤ n) (i : Fin n) : colRem hr hb G V k (ix2 i q) = remaining (col V q) g k i := by
  induction k generalizing i with
  | zero => exact (remaining_zero (col V q) g i).symm
  | succ k ih =>
    obtain ⟨l₀, h₀⟩ := exists_rank (key_injective (col V q) hg) (k := k) (by simpa using hk)
    have hm : colMin hr (colRem hr hb G V k) (ix2 0 q) = col V q l₀ := by
      pointwise [colMin]
      exact fold_remaining h₀ _ fun l => ih (by omega) l
    have ha : colArg hr hb G (colRem hr hb G V k) (ix2 0 q) = BitVec.ofNat 32 (g l₀) := by
      pointwise [colArg]
      rw [hm]
      exact fold_number hlt h₀ (hV l₀) _ (fun l => ih (by omega) l) _ hG
    rw [remaining_succ hg h₀]
    show colNext hr hb G (colRem hr hb G V k) (ix2 i q) = _
    pointwise [colNext]
    have := hlt i
    have := hlt l₀
    rw [ha, select_eq, ofBits_inf, ih (by omega), hG]
    exact if_congr (ofNat_eq_iff (by omega) (by omega)) rfl rfl

/-- The `k`-th step finds the value of the candidate of rank `k`, -/
theorem colV_apply (k : ℕ) (hk : k ≤ n) (i₀ : Fin n) (h₀ : rank (key (col V q) g) i₀ = k) :
    colV hr hb G V k (ix2 0 q) = col V q i₀ := by
  pointwise [colV, colMin]
  exact fold_remaining h₀ _ fun i => colRem_apply hr hb G V q hG hg hlt hV k hk i

/-- and its number. -/
theorem colG_apply (k : ℕ) (hk : k ≤ n) (i₀ : Fin n) (h₀ : rank (key (col V q) g) i₀ = k) :
    colG hr hb G V k (ix2 0 q) = BitVec.ofNat 32 (g i₀) := by
  have hm : colMin hr (colRem hr hb G V k) (ix2 0 q) = col V q i₀ := colV_apply hr hb G V q hG hg hlt hV k hk i₀ h₀
  pointwise [colG, colArg]
  rw [hm]
  exact fold_number hlt h₀ (hV i₀) _ (fun i => colRem_apply hr hb G V q hG hg hlt hV k hk i) _ hG

end Column

end Cert.KernelIdeal.Knn

end
-- ==== Proof.Cand.lean ====
/- The table of candidates at the exact values: row `i` of a table with `c` candidates a segment holds, for each query, the
   element of rank `i % c` of segment `i / c`, its squared distance and its number. -/
module

public import proofs.«01_k».proof.Proof.Pick
public import Idealize.ShloMosaic.Lib.Pipeline.Value

@[expose] public section

set_option maxRecDepth 16384

noncomputable section

namespace Cert.KernelIdeal.Knn

open Idealize.ShloMosaic
open Cert.KernelIdeal Cert.KernelIdeal.Gen Cert.Rank

/-! ## Stacks read at an index -/

/-- Tables of `m` rows stacked, read at a row. -/
theorem concat_rows {α : Type} {m n N : ℕ} (f : Fin N → ((Tab m).Idx → α))
    (h : Shape.Concatenates ((List.ofFn fun g : Fin N => (⟨Tab m, f g⟩ : (s : Shape) × (s.Idx → α))).map (·.1)) (Tab n) 0)
    (i : Fin n) (q : Fin 128) (g : Fin N) (hg : i.val / m = g.val) (a : Fin m) (ha : a.val = i.val % m) :
    concatenate (Tab n) 0 (List.ofFn fun g : Fin N => (⟨Tab m, f g⟩ : (s : Shape) × (s.Idx → α))) h (ix2 i q) = f g (ix2 a q) :=
  Idealize.ShloMosaic.concatenate_ofFn_apply (t := Tab n) 0 f h rfl m rfl (ix2 i q) g hg (ix2 a q) ha fun b hb => by
    match b with
    | ⟨0, _⟩ => exact absurd rfl hb
    | ⟨1, _⟩ => rfl

theorem groupV4_apply (W : FVec Ideal S16x128x128 .f32) (r : Fin 64) (q : Fin 128) :
    groupV4 W (ix2 r q) = segMin (segRem W (r.val % 4)) (ix2 ⟨r.val / 4, by omega⟩ q) := by
  show shapeCast S64x128 (concatenate S16x4x128 1 (List.ofFn fun k : Fin 4 => (⟨S16x1x128, segV W k.val⟩ : (s : Shape) × (s.Idx → Ideal .f32)))
    concatenates_S16x1x128_S16x1x128_S16x1x128_S16x1x128_S16x4x128_d1) shapeCasts_S16x4x128_S64x128 (ix2 r q) = _
  pointwise [segV]

theorem groupG4_apply (p : BitVec 32) (W : FVec Ideal S16x128x128 .f32) (r : Fin 64) (q : Fin 128) :
    groupG4 p W (ix2 r q) = (BitVec.ofNat 32 (r.val / 4) + p) * 128#32 + segArg (segRem W (r.val % 4)) (ix2 ⟨r.val / 4, by omega⟩ q) := by
  show shapeCast S64x128 (addi (muli (addi (iota .tc S16x4x128 32 [0] iota_S16x4x128_d0_w32) (broadcast S16x4x128 p)) (broadcast S16x4x128 (128#32 : BitVec 32)))
    (concatenate S16x4x128 1 (List.ofFn fun k : Fin 4 => (⟨S16x1x128, segL W k.val⟩ : (s : Shape) × (s.Idx → BitVec 32)))
      concatenates_S16x1x128_S16x1x128_S16x1x128_S16x1x128_S16x4x128_d1)) shapeCasts_S16x4x128_S64x128 (ix2 r q) = _
  pointwise [segL]
  rfl

theorem groupV16_apply (W : FVec Ideal S16x128x128 .f32) (r : Fin 256) (q : Fin 128) :
    groupV16 W (ix2 r q) = segMin (segRem W (r.val % 16)) (ix2 ⟨r.val / 16, by omega⟩ q) := by
  show shapeCast S256x128 (concatenate S16x16x128 1 (List.ofFn fun k : Fin 16 => (⟨S16x1x128, segV W k.val⟩ : (s : Shape) × (s.Idx → Ideal .f32)))
    concatenates_S16x1x128_S16x1x128_S16x1x128_S16x1x128_S16x1x128_S16x1x128_S16x1x128_S16x1x128_S16x1x128_S16x1x128_S16x1x128_S16x1x128_S16x1x128_S16x1x128_S16x1x128_S16x1x128_S16x16x128_d1)
    shapeCasts_S16x16x128_S256x128 (ix2 r q) = _
  pointwise [segV]

theorem groupG16_apply (p : BitVec 32) (W : FVec Ideal S16x128x128 .f32) (r : Fin 256) (q : Fin 128) :
    groupG16 p W (ix2 r q) = (BitVec.ofNat 32 (r.val / 16) + p) * 128#32 + segArg (segRem W (r.val % 16)) (ix2 ⟨r.val / 16, by omega⟩ q) := by
  show shapeCast S256x128 (addi (muli (addi (iota .tc S16x16x128 32 [0] iota_S16x16x128_d0_w32) (broadcast S16x16x128 p)) (broadcast S16x16x128 (128#32 : BitVec 32)))
    (concatenate S16x16x128 1 (List.ofFn fun k : Fin 16 => (⟨S16x1x128, segL W k.val⟩ : (s : Shape) × (s.Idx → BitVec 32)))
      concatenates_S16x1x128_S16x1x128_S16x1x128_S16x1x128_S16x1x128_S16x1x128_S16x1x128_S16x1x128_S16x1x128_S16x1x128_S16x1x128_S16x1x128_S16x1x128_S16x1x128_S16x1x128_S16x1x128_S16x16x128_d1))
    shapeCasts_S16x16x128_S256x128 (ix2 r q) = _
  pointwise [segL]
  rfl

section Tables

variable (qp : FVec Ideal S128x72 .f32) (r : Rows Ideal)

theorem candV4_apply (i : Fin 512) (q : Fin 128) : candV4 qp r (ix2 i q)
    = groupV4 (Knn.dist qp (r ⟨i.val / 64, by omega⟩)) (ix2 ⟨i.val % 64, by omega⟩ q) :=
  concat_rows (fun g : Fin 8 => groupV4 (Knn.dist qp (r g))) concatenates_S64x128_S64x128_S64x128_S64x128_S64x128_S64x128_S64x128_S64x128_S512x128_d0
    i q ⟨i.val / 64, by omega⟩ rfl ⟨i.val % 64, by omega⟩ rfl

theorem candG4_apply (i : Fin 512) (q : Fin 128) : candG4 qp r (ix2 i q)
    = groupG4 (BitVec.ofNat 32 (16 * (i.val / 64))) (Knn.dist qp (r ⟨i.val / 64, by omega⟩)) (ix2 ⟨i.val % 64, by omega⟩ q) :=
  concat_rows (fun g : Fin 8 => groupG4 (BitVec.ofNat 32 (16 * g.val)) (Knn.dist qp (r g)))
    concatenates_S64x128_S64x128_S64x128_S64x128_S64x128_S64x128_S64x128_S64x128_S512x128_d0
    i q ⟨i.val / 64, by omega⟩ rfl ⟨i.val % 64, by omega⟩ rfl

theorem candV16_apply (i : Fin 2048) (q : Fin 128) : candV16 qp r (ix2 i q)
    = groupV16 (Knn.dist qp (r ⟨i.val / 256, by omega⟩)) (ix2 ⟨i.val % 256, by omega⟩ q) :=
  concat_rows (fun g : Fin 8 => groupV16 (Knn.dist qp (r g)))
    concatenates_S256x128_S256x128_S256x128_S256x128_S256x128_S256x128_S256x128_S256x128_S2048x128_d0
    i q ⟨i.val / 256, by omega⟩ rfl ⟨i.val % 256, by omega⟩ rfl

theorem candG16_apply (i : Fin 2048) (q : Fin 128) : candG16 qp r (ix2 i q)
    = groupG16 (BitVec.ofNat 32 (16 * (i.val / 256))) (Knn.dist qp (r ⟨i.val / 256, by omega⟩)) (ix2 ⟨i.val % 256, by omega⟩ q) :=
  concat_rows (fun g : Fin 8 => groupG16 (BitVec.ofNat 32 (16 * g.val)) (Knn.dist qp (r g)))
    concatenates_S256x128_S256x128_S256x128_S256x128_S256x128_S256x128_S256x128_S256x128_S2048x128_d0
    i q ⟨i.val / 256, by omega⟩ rfl ⟨i.val % 256, by omega⟩ rfl

end Tables

theorem topV_apply {n : ℕ} (hr : (Tab n).Reduces [0] S128) (hb : S1x128.Broadcasts (Tab n))
    (G : IVec (Tab n) 32) (V : FVec Ideal (Tab n) .f32) (k : Fin 16) (q : Fin 128) :
    topV hr hb G V (ix2 k q) = colV hr hb G V k.val (ix2 0 q) :=
  concat_rows (m := 1) (fun k : Fin 16 => colV hr hb G V k.val)
    concatenates_S1x128_S1x128_S1x128_S1x128_S1x128_S1x128_S1x128_S1x128_S1x128_S1x128_S1x128_S1x128_S1x128_S1x128_S1x128_S1x128_S16x128_d0
    k q k (Nat.div_one _) 0 (Nat.mod_one _).symm

theorem topG_apply {n : ℕ} (hr : (Tab n).Reduces [0] S128) (hb : S1x128.Broadcasts (Tab n))
    (G : IVec (Tab n) 32) (V : FVec Ideal (Tab n) .f32) (k : Fin 16) (q : Fin 128) :
    topG hr hb G V (ix2 k q) = colG hr hb G V k.val (ix2 0 q) :=
  concat_rows (m := 1) (fun k : Fin 16 => colG hr hb G V k.val)
    concatenates_S1x128_S1x128_S1x128_S1x128_S1x128_S1x128_S1x128_S1x128_S1x128_S1x128_S1x128_S1x128_S1x128_S1x128_S1x128_S1x128_S16x128_d0
    k q k (Nat.div_one _) 0 (Nat.mod_one _).symm

/-! ## Which element a row of the table is -/

section Elem

variable (D : Fin 16384 → EReal)

/-- The values of segment `c`. -/
def segD (c : Fin 128) (l : Fin 128) : EReal := D ⟨c.val * 128 + l.val, by omega⟩

/-- The lane of rank `p` in segment `c`. -/
def laneOf (c : Fin 128) (p : Fin 128) : Fin 128 :=
  nth (key_injective (segD D c) Fin.val_injective) (p.cast (Fintype.card_fin 128).symm)

theorem rank_laneOf (c p : Fin 128) : rank (key (segD D c) Fin.val) (laneOf D c p) = p.val :=
  rank_nth (key_injective (segD D c) Fin.val_injective) (p.cast (Fintype.card_fin 128).symm)

theorem laneOf_rank (c l : Fin 128) (h : rank (key (segD D c) Fin.val) l < 128) : laneOf D c ⟨_, h⟩ = l :=
  nth_eq (key_injective (segD D c) Fin.val_injective) _ rfl

theorem laneOf_injective (c : Fin 128) : Function.Injective (laneOf D c) := fun p p' h =>
  Fin.ext (by rw [← rank_laneOf D c p, ← rank_laneOf D c p', h])

variable {n cap : ℕ} (hn : n = 128 * cap) (hc : cap ≤ 128)

include hn in
theorem row_div_lt (i : Fin n) : i.val / cap < 128 := Nat.div_lt_of_lt_mul (by rw [mul_comm]; omega)

include hn in
theorem row_mod_lt (i : Fin n) : i.val % cap < cap := by
  rcases Nat.eq_zero_or_pos cap with h | h
  · subst h; have := i.isLt; omega
  · exact Nat.mod_lt _ h

/-- The element in row `i`. -/
def elem (i : Fin n) : Fin 16384 :=
  ⟨i.val / cap * 128 + (laneOf D ⟨i.val / cap, row_div_lt hn i⟩ ⟨i.val % cap, (row_mod_lt hn i).trans_le hc⟩).val,
    by have := row_div_lt hn i; omega⟩

theorem elem_div (i : Fin n) : (elem D hn hc i).val / 128 = i.val / cap := by
  show (_ * 128 + (laneOf D _ _).val) / 128 = _
  omega

theorem elem_mod (i : Fin n) : (elem D hn hc i).val % 128
    = (laneOf D ⟨i.val / cap, row_div_lt hn i⟩ ⟨i.val % cap, (row_mod_lt hn i).trans_le hc⟩).val := by
  show (_ * 128 + (laneOf D _ _).val) % 128 = _
  omega

/-- The value in row `i` is its segment's at that lane. -/
theorem elem_seg (i : Fin n) : D (elem D hn hc i)
    = segD D ⟨i.val / cap, row_div_lt hn i⟩ (laneOf D ⟨i.val / cap, row_div_lt hn i⟩ ⟨i.val % cap, (row_mod_lt hn i).trans_le hc⟩) := rfl

/-- Distinct rows hold distinct elements. -/
theorem elem_injective : Function.Injective (elem D hn hc) := fun i j h => by
  have hd : i.val / cap = j.val / cap := by rw [← elem_div D hn hc i, ← elem_div D hn hc j, h]
  have hm := (elem_mod D hn hc i).symm.trans ((congrArg (·.val % 128) h).trans (elem_mod D hn hc j))
  have hs : (⟨i.val / cap, row_div_lt hn i⟩ : Fin 128) = ⟨j.val / cap, row_div_lt hn j⟩ := Fin.ext hd
  rw [hs] at hm
  have := Fin.ext_iff.1 (laneOf_injective D _ (Fin.ext hm))
  have hm : i.val % cap = j.val % cap := this
  exact Fin.ext (by rw [← Nat.div_add_mod i.val cap, ← Nat.div_add_mod j.val cap, hd, hm])

/-- An element in no row has `cap` smaller ones of its segment in the table. -/
theorem elem_cover (t : Fin 16384) (ht : ∀ i, elem D hn hc i ≠ t) : ∃ Q : Finset (Fin n), cap ≤ Q.card ∧
    ∀ i ∈ Q, (elem D hn hc i).val / 128 = t.val / 128 ∧ key D Fin.val (elem D hn hc i) < key D Fin.val t := by
  have hcn : ∀ p : Fin cap, t.val / 128 * cap + p.val < n := fun p => by
    have h1 : t.val / 128 + 1 ≤ 128 := by omega
    have h2 := Nat.mul_le_mul_right cap h1
    rw [Nat.add_mul, one_mul] at h2
    have := p.isLt
    omega
  have hdiv : ∀ p : Fin cap, (t.val / 128 * cap + p.val) / cap = t.val / 128 := fun p => by
    rw [mul_comm, Nat.mul_add_div (by have := p.isLt; omega), Nat.div_eq_of_lt p.isLt, add_zero]
  have hmod : ∀ p : Fin cap, (t.val / 128 * cap + p.val) % cap = p.val := fun p => by
    rw [mul_comm, Nat.mul_add_mod, Nat.mod_eq_of_lt p.isLt]
  have hrow : ∀ p : Fin cap, elem D hn hc ⟨_, hcn p⟩
      = ⟨t.val / 128 * 128 + (laneOf D ⟨t.val / 128, by omega⟩ ⟨p.val, p.isLt.trans_le hc⟩).val, by omega⟩ := fun p =>
    Fin.ext (by simp only [elem, hdiv, hmod])
  have hlane : D t = segD D ⟨t.val / 128, by omega⟩ ⟨t.val % 128, by omega⟩ := by
    unfold segD; exact congrArg D (Fin.ext (by simp only; omega))
  refine ⟨Finset.univ.image fun p : Fin cap => (⟨_, hcn p⟩ : Fin n), ?_, fun i hi => ?_⟩
  · rw [Finset.card_image_of_injective _ fun p p' h => Fin.ext (by have := Fin.ext_iff.1 h; simp only at this; omega),
      Finset.card_univ, Fintype.card_fin]
  · obtain ⟨p, -, rfl⟩ := Finset.mem_image.1 hi
    refine ⟨by rw [elem_div]; exact hdiv p, ?_⟩
    have hr : cap ≤ rank (key (segD D ⟨t.val / 128, by omega⟩) Fin.val) (⟨t.val % 128, by omega⟩ : Fin 128) := by
      by_contra hlt
      have hlt := not_le.1 hlt
      refine ht ⟨_, hcn ⟨_, hlt⟩⟩ ((hrow _).trans (Fin.ext ?_))
      have := laneOf_rank D ⟨t.val / 128, by omega⟩ ⟨t.val % 128, by omega⟩ (hlt.trans_le hc)
      simp only [this]
      omega
    have hk := (rank_lt_iff (key (segD D ⟨t.val / 128, by omega⟩) Fin.val)
      (laneOf D ⟨t.val / 128, by omega⟩ ⟨p.val, p.isLt.trans_le hc⟩) ⟨t.val % 128, by omega⟩).1
      (by rw [rank_laneOf]; exact p.isLt.trans_le hr)
    rw [key_lt] at hk ⊢
    rw [hrow, hlane]
    refine hk.imp id fun h => ⟨h.1, ?_⟩
    have := h.2
    simp only at this ⊢
    omega

/-- An element of the table has its rank among all, if fewer than `cap` rows of each segment are smaller. -/
theorem rank_elem (i : Fin n)
    (hfew : ∀ c, (Finset.univ.filter fun i' : Fin n => key D Fin.val (elem D hn hc i') < key D Fin.val (elem D hn hc i)
      ∧ i'.val / cap = c).card < cap) :
    rank (key D Fin.val) (elem D hn hc i) = rank (fun i => key D Fin.val (elem D hn hc i)) i :=
  rank_table (key D Fin.val) (fun t => t.val / 128) cap (elem D hn hc) (elem_injective D hn hc) (elem_cover D hn hc) i
    (by simpa only [elem_div] using hfew)

end Elem

end Cert.KernelIdeal.Knn

end
-- ==== Proof.Top.lean ====
/- The sixteen nearest of each query, as the kernel finds them at the exact values: the rows extracted from a table of
   candidates, the overflow test, and the two results. -/
module

public import proofs.«01_k».proof.Proof.Cand
public import Idealize.ShloMosaic.Lib.Routing.Words

@[expose] public section

set_option maxRecDepth 16384

noncomputable section

namespace Cert.KernelIdeal.Knn

open Idealize.ShloMosaic
open Cert.KernelIdeal Cert.KernelIdeal.Gen Cert.Rank

/-- A group, a segment in it and a lane make the number of a row. -/
theorem row_lt (g : Fin 8) (s : Fin 16) (l : Fin 128) : (16 * g.val + s.val) * 128 + l.val < 16384 := by omega

section Query

variable {qp : FVec Ideal S128x72 .f32} {r : Rows Ideal} {q : Fin 128} {D : Fin 16384 → EReal}
  (hD : ∀ (g : Fin 8) (s : Fin 16) (l : Fin 128), Knn.dist qp (r g) (ix3 s l q) = D ⟨(16 * g.val + s.val) * 128 + l.val, row_lt g s l⟩)
  (hfin : ∀ t, D t ≠ ⊤)

include hD in
/-- A segment's lanes are its values. -/
theorem lane_eq (g : Fin 8) (s : Fin 16) (c : Fin 128) (h : 16 * g.val + s.val = c.val) :
    lane (Knn.dist qp (r g)) s q = segD D c := funext fun l => by
  unfold lane segD
  rw [hD]
  exact congrArg D (Fin.ext (by simp only [h]))

/-- The number a group computes from its first segment, the segment in it and the lane. -/
theorem number_word (a g l c : ℕ) (h : 16 * g + a = c) :
    (BitVec.ofNat 32 a + BitVec.ofNat 32 (16 * g)) * 128#32 + BitVec.ofNat 32 l = BitVec.ofNat 32 (c * 128 + l) := by
  rw [← BitVec.ofNat_add, ← BitVec.ofNat_mul, ← BitVec.ofNat_add, Nat.add_comm a, h]

include hD hfin

theorem candV4_elem (i : Fin 512) : candV4 qp r (ix2 i q) = D (elem D (cap := 4) rfl (by decide) i) := by
  have h := lane_eq hD ⟨i.val / 64, by omega⟩ ⟨i.val % 64 / 4, by omega⟩ ⟨i.val / 4, by omega⟩ (by simp only; omega)
  have hr := rank_laneOf D ⟨i.val / 4, by omega⟩ ⟨i.val % 4, by omega⟩
  rw [← h] at hr
  rw [candV4_apply, groupV4_apply, segMin_apply _ _ _ (fun l => by rw [h]; exact hfin _) _ (by simp only; omega) _ (hr.trans (by simp only; omega)),
    elem_seg D rfl (by decide), h]

theorem candG4_elem (i : Fin 512) : candG4 qp r (ix2 i q) = BitVec.ofNat 32 (elem D (cap := 4) rfl (by decide) i).val := by
  have h := lane_eq hD ⟨i.val / 64, by omega⟩ ⟨i.val % 64 / 4, by omega⟩ ⟨i.val / 4, by omega⟩ (by simp only; omega)
  have hr := rank_laneOf D ⟨i.val / 4, by omega⟩ ⟨i.val % 4, by omega⟩
  rw [← h] at hr
  rw [candG4_apply, groupG4_apply, segArg_apply _ _ _ (fun l => by rw [h]; exact hfin _) _ (by simp only; omega) _ (hr.trans (by simp only; omega)),
    number_word _ _ _ (i.val / 4) (by simp only; omega)]
  rfl

theorem candV16_elem (i : Fin 2048) : candV16 qp r (ix2 i q) = D (elem D (cap := 16) rfl (by decide) i) := by
  have h := lane_eq hD ⟨i.val / 256, by omega⟩ ⟨i.val % 256 / 16, by omega⟩ ⟨i.val / 16, by omega⟩ (by simp only; omega)
  have hr := rank_laneOf D ⟨i.val / 16, by omega⟩ ⟨i.val % 16, by omega⟩
  rw [← h] at hr
  rw [candV16_apply, groupV16_apply, segMin_apply _ _ _ (fun l => by rw [h]; exact hfin _) _ (by simp only; omega) _ (hr.trans (by simp only; omega)),
    elem_seg D rfl (by decide), h]

theorem candG16_elem (i : Fin 2048) : candG16 qp r (ix2 i q) = BitVec.ofNat 32 (elem D (cap := 16) rfl (by decide) i).val := by
  have h := lane_eq hD ⟨i.val / 256, by omega⟩ ⟨i.val % 256 / 16, by omega⟩ ⟨i.val / 16, by omega⟩ (by simp only; omega)
  have hr := rank_laneOf D ⟨i.val / 16, by omega⟩ ⟨i.val % 16, by omega⟩
  rw [← h] at hr
  rw [candG16_apply, groupG16_apply, segArg_apply _ _ _ (fun l => by rw [h]; exact hfin _) _ (by simp only; omega) _ (hr.trans (by simp only; omega)),
    number_word _ _ _ (i.val / 16) (by simp only; omega)]
  rfl

end Query

/-! ## The rows extracted -/

section Rows

variable {n cap : ℕ} (hn : n = 128 * cap) (hc : cap ≤ 128) (D : Fin 16384 → EReal)

/-- The keys of the table's rows. -/
def rowKey (i : Fin n) : EReal ×ₗ ℕ := key D Fin.val (elem D hn hc i)

theorem rowKey_injective : Function.Injective (rowKey hn hc D) :=
  (key_injective D Fin.val_injective).comp (elem_injective D hn hc)

/-- The row extracted at step `k`. -/
def rowOf (hk : 16 ≤ n) (k : Fin 16) : Fin n :=
  nth (rowKey_injective hn hc D) ⟨k.val, by rw [Fintype.card_fin]; omega⟩

theorem rank_rowOf (hk : 16 ≤ n) (k : Fin 16) : rank (rowKey hn hc D) (rowOf hn hc D hk k) = k.val :=
  rank_nth (rowKey_injective hn hc D) ⟨k.val, by rw [Fintype.card_fin]; omega⟩

variable (hr : (Tab n).Reduces [0] S128) (hb : S1x128.Broadcasts (Tab n)) {G : IVec (Tab n) 32} {V : FVec Ideal (Tab n) .f32} {q : Fin 128}
  (hG : ∀ i, G (ix2 i q) = BitVec.ofNat 32 (elem D hn hc i).val) (hV : ∀ i, V (ix2 i q) = D (elem D hn hc i))
  (hfin : ∀ t, D t ≠ ⊤)

include hG hV hfin

theorem top_rowOf (hk : 16 ≤ n) (k : Fin 16) :
    topG hr hb G V (ix2 k q) = BitVec.ofNat 32 (elem D hn hc (rowOf hn hc D hk k)).val
      ∧ topV hr hb G V (ix2 k q) = D (elem D hn hc (rowOf hn hc D hk k)) := by
  have hcol : col V q = fun i => D (elem D hn hc i) := funext hV
  have hkey : key (col V q) (fun i => (elem D hn hc i).val) = rowKey hn hc D := by rw [hcol]; rfl
  have hinj : Function.Injective fun i => (elem D hn hc i).val := Fin.val_injective.comp (elem_injective D hn hc)
  have hlt : ∀ i, (elem D hn hc i).val < 2 ^ 30 := fun i => by omega
  have hne : ∀ i, col V q i ≠ ⊤ := fun i => by rw [hcol]; exact hfin _
  have h0 := rank_rowOf hn hc D hk k
  rw [← hkey] at h0
  rw [topG_apply, topV_apply, colG_apply hr hb G V q hG hinj hlt hne k.val (by omega) _ h0,
    colV_apply hr hb G V q hG hinj hlt hne k.val (by omega) _ h0, hcol]
  exact ⟨rfl, rfl⟩

end Rows

/-- With `cap` rows a segment the row extracted at step `k` is the element of rank `k`, if of the sixteen extracted
    fewer than `cap` are of each segment, or if `cap` is sixteen. -/
theorem rank_top {n cap : ℕ} (hn : n = 128 * cap) (hc : cap ≤ 128) (D : Fin 16384 → EReal) (hk : 16 ≤ n)
    (h : 16 ≤ cap ∨ ∀ c, (Finset.univ.filter fun k : Fin 16 => (elem D hn hc (rowOf hn hc D hk k)).val / 128 = c).card < cap)
    (k : Fin 16) : rank (key D Fin.val) (elem D hn hc (rowOf hn hc D hk k)) = k.val := by
  refine (rank_elem D hn hc _ fun c => ?_).trans (rank_rowOf hn hc D hk k)
  -- the smaller rows of the segment, at the steps that extract them
  have hlt : ∀ i, rowKey hn hc D i < rowKey hn hc D (rowOf hn hc D hk k) → rank (rowKey hn hc D) i < k.val := fun i hi => by
    have := (rank_lt_iff _ _ _).2 hi
    rwa [rank_rowOf] at this
  have hrow : ∀ i (hi : rank (rowKey hn hc D) i < k.val), rowOf hn hc D hk ⟨_, hi.trans k.isLt⟩ = i := fun i hi =>
    nth_eq (rowKey_injective hn hc D) _ rfl
  have hsub : (Finset.univ.filter fun i : Fin n => rowKey hn hc D i < rowKey hn hc D (rowOf hn hc D hk k) ∧ i.val / cap = c)
      ⊆ (Finset.univ.filter fun j : Fin 16 => j < k ∧ (elem D hn hc (rowOf hn hc D hk j)).val / 128 = c).image (rowOf hn hc D hk) := fun i hi => by
    obtain ⟨-, hi, hic⟩ := Finset.mem_filter.1 hi
    refine Finset.mem_image.2 ⟨⟨_, (hlt i hi).trans k.isLt⟩, Finset.mem_filter.2 ⟨Finset.mem_univ _, hlt i hi, ?_⟩, hrow i (hlt i hi)⟩
    rw [hrow i (hlt i hi), elem_div, hic]
  refine lt_of_le_of_lt ((Finset.card_le_card hsub).trans Finset.card_image_le) ?_
  rcases h with h | h
  · refine lt_of_le_of_lt (Finset.card_le_card (t := Finset.Iio k) fun j hj => ?_) ?_
    · exact Finset.mem_Iio.2 (Finset.mem_filter.1 hj).2.1
    · rw [Fin.card_Iio]; omega
  · exact lt_of_le_of_lt (Finset.card_le_card fun j hj =>
      Finset.mem_filter.2 ⟨Finset.mem_univ _, (Finset.mem_filter.1 hj).2.2⟩) (h c)

/-! ## The overflow test -/

/-- The segment of a number. -/
theorem segOf_apply (x : IVec S1x128 32) (q : Fin 128) (n : ℕ) (hn : n < 2 ^ 31) (hx : x (ix2 0 q) = BitVec.ofNat 32 n) :
    segOf x (ix2 0 q) = BitVec.ofNat 32 (n / 128) := by
  pointwise [segOf]
  rw [hx, Routing.remsi_word .vector hn (by decide : 0 < 128) (by decide), Routing.divsi_word .vector hn (by decide : 0 < 128) (by decide)]
  rcases Nat.eq_zero_or_pos n with h | h
  · subst h; decide
  · have h1 : IntOp.cmpi .sgt (BitVec.ofNat 32 n) 0#32 = 1#1 := by
      have : (0#32).slt (BitVec.ofNat 32 n) = true := by
        simp only [BitVec.slt, decide_eq_true_eq, toInt_small hn]
        show (0 : ℤ) < n
        omega
      simp [IntOp.cmpi, this]
    have h2 : IntOp.cmpi .slt (BitVec.ofNat 32 n) 0#32 = 0#1 := by
      have : (BitVec.ofNat 32 n).slt 0#32 = false := by
        simp only [BitVec.slt, decide_eq_false_iff_not, toInt_small hn, not_lt]
        show (0 : ℤ) ≤ n
        omega
      simp [IntOp.cmpi, this]
    rw [h1, h2]
    have h3 : IntOp.cmpi .ne (IntOp.subi (BitVec.setWidth 32 (1#1)) (BitVec.setWidth 32 (0#1)))
        (Scalar.subi (Scalar.extui (Scalar.cmpi .sgt (128#32 : BitVec 32) 0#32)) (Scalar.extui (Scalar.cmpi .slt (128#32 : BitVec 32) 0#32)) : BitVec 32) = 0#1 := by
      decide
    rw [h3]
    simp [IntOp.andi, Scalar.select]

/-- The count at segment `c` is the number of the sixteen of that segment. -/
theorem cnt_apply (g : IVec S16x128 32) (q c : Fin 128) (m : Fin 16 → ℕ) (hm : ∀ k, m k < 2 ^ 31)
    (hg : ∀ k, g (ix2 k q) = BitVec.ofNat 32 (m k)) :
    cnt g (ix2 c q) = BitVec.ofNat 32 (Finset.univ.filter fun k => m k / 128 = c.val).card := by
  have hstep : ∀ (C : IVec S128x128 32) (x : IVec S1x128 32) (t : ℕ) (k : Fin 16), C (ix2 c q) = BitVec.ofNat 32 t →
      x (ix2 0 q) = BitVec.ofNat 32 (m k) →
      cntStep C x (ix2 c q) = BitVec.ofNat 32 (t + if m k / 128 = c.val then 1 else 0) := fun C x t k hC hx => by
    have hs := segOf_apply x q (m k) (hm k) hx
    have := hm k
    pointwise [cntStep]
    rw [hC, hs, BitVec.ofNat_add]
    show _ + _ = _
    congr 1
    by_cases h : m k / 128 = c.val
    · rw [if_pos h, h]; simp [IntOp.cmpi]
    · rw [if_neg h]
      have : ¬ BitVec.ofNat 32 (m k / 128) = BitVec.ofNat 32 c.val := fun hc => h ((ofNat_eq_iff (by omega) (by omega)).1 hc)
      simp [IntOp.cmpi, beq_eq_false_iff_ne.2 this]
  rw [Finset.card_filter]
  simp only [Fin.sum_univ_castSucc, Fin.sum_univ_zero]
  unfold cnt
  iterate 16 refine hstep _ _ _ _ ?_ (by pointwise; exact hg _)
  rfl

/-- With the overflow test false fewer than four of the sixteen are of each segment. -/
theorem few_of_ovf (g : IVec S16x128 32) (q : Fin 128) (m : Fin 16 → ℕ) (hm : ∀ k, m k < 16384)
    (hg : ∀ k, g (ix2 k q) = BitVec.ofNat 32 (m k)) (h : ¬ ovf (F := Ideal) g = 1#1) (c : ℕ) :
    (Finset.univ.filter fun k => m k / 128 = c).card < 4 := by
  by_contra hge
  have hge := not_lt.1 hge
  by_cases hc : c < 128
  · have hn := cnt_apply g q ⟨c, hc⟩ m (fun k => (hm k).trans (by decide)) hg
    have hle : (Finset.univ.filter fun k => m k / 128 = c).card ≤ 16 := (Finset.card_le_univ _).trans (by simp)
    generalize (Finset.univ.filter fun k => m k / 128 = c).card = N at hn hle hge
    apply h
    pointwise [ovf]
    have hpos : (0 : EReal) < Finset.fold max (Ideal.ofBits FTy.f32 4286578688#32)
        (fun x : Fin 128 × Fin 128 => Scalar.select (IntOp.cmpi CmpIPredicate.sge (cnt g (ix2 x.1 x.2)) 4#32) (1 : EReal) 0) Finset.univ := by
      refine (Finset.lt_fold_max _).2 (Or.inr ⟨(⟨c, hc⟩, q), Finset.mem_univ _, ?_⟩)
      have : (4#32).sle (BitVec.ofNat 32 N) = true := by
        simp only [BitVec.sle, decide_eq_true_eq, toInt_small (show N < 2 ^ 31 by omega)]
        show (4 : ℤ) ≤ N
        omega
      simp only [hn]
      simp [IntOp.cmpi, this, Scalar.select]
    rw [decide_eq_true hpos]
    decide
  · rw [Finset.filter_eq_empty_iff.2 fun k _ => by have := hm k; omega] at hge
    simp at hge

/-! ## The two results -/

/-- For one query whose squared distances are `D`, at every place `k` the results are the number of the element of rank
    `k` and the root of its squared distance. -/
theorem res_apply {qp : FVec Ideal S128x72 .f32} {r : Rows Ideal} {q : Fin 128} {D : Fin 16384 → EReal}
    (hD : ∀ (g : Fin 8) (s : Fin 16) (l : Fin 128), Knn.dist qp (r g) (ix3 s l q) = D ⟨(16 * g.val + s.val) * 128 + l.val, row_lt g s l⟩)
    (hfin : ∀ t, D t ≠ ⊤) (k : Fin 16) : ∃ t, rank (key D Fin.val) t = k.val ∧
      resI qp r (ix3 0 q k) = BitVec.ofNat 32 t.val ∧ resD qp r (ix3 0 q k) = Ideal.sqrt (max (D t) 0) := by
  have h4 := top_rowOf (cap := 4) rfl (by decide) D reduces_S512x128_S128 broadcasts_S1x128_S512x128
    (candG4_elem hD hfin) (candV4_elem hD hfin) hfin (by decide)
  have h16 := top_rowOf (cap := 16) rfl (by decide) D reduces_S2048x128_S128 broadcasts_S1x128_S2048x128
    (candG16_elem hD hfin) (candV16_elem hD hfin) hfin (by decide)
  by_cases ho : ovf (F := Ideal) (top4G qp r) = 1#1
  · refine ⟨_, rank_top (n := 2048) (cap := 16) rfl (by decide) D (by decide) (Or.inl le_rfl) k, ?_, ?_⟩
    · unfold resI
      rw [if_pos ho]
      pointwise [outI]
      exact (h16 k).1
    · unfold resD
      rw [if_pos ho]
      pointwise [outD]
      exact congrArg (fun x => Ideal.sqrt (max x 0)) (h16 k).2
  · refine ⟨_, rank_top (n := 512) (cap := 4) rfl (by decide) D (by decide) (Or.inr fun c =>
      few_of_ovf (top4G qp r) q _ (fun k => Fin.isLt _) (fun k => (h4 k).1) ho c) k, ?_, ?_⟩
    · unfold resI
      rw [if_neg ho]
      pointwise [outI]
      exact (h4 k).1
    · unfold resD
      rw [if_neg ho]
      pointwise [outD]
      exact congrArg (fun x => Ideal.sqrt (max x 0)) (h4 k).2

end Cert.KernelIdeal.Knn

end
-- ==== Proof.Sort.lean ====
/- A stable sort of the positions by their values, in terms of ranks: equal values keep the order of their positions. -/
module

public import proofs.«01_k».proof.Proof.Rank
public import Idealize.ShloMosaic.Lib.SortPrefix
public import Idealize.ShloMosaic.PureOps
public import Idealize.ShloMosaic.PureOps.Ideal
public import Mathlib.Algebra.Order.BigOperators.Group.Finset

@[expose] public section

set_option maxRecDepth 16384

noncomputable section

namespace Cert.Rank

open Idealize.ShloMosaic

/-- The squared distance of two points. -/
def sqd (x y : Fin 64 → ℝ) : ℝ := ∑ d, (x d - y d) * (x d - y d)

theorem sqd_nonneg (x y : Fin 64 → ℝ) : 0 ≤ sqd x y := Finset.sum_nonneg fun d _ => mul_self_nonneg _

/-- Finite sums of reals are the same among the extended reals. -/
theorem coe_sum {T : Type} (S : Finset T) (f : T → ℝ) : ((∑ t ∈ S, f t : ℝ) : EReal) = ∑ t ∈ S, (f t : EReal) := by
  classical
  induction S using Finset.induction_on with
  | empty => simp
  | insert a S ha ih => rw [Finset.sum_insert ha, Finset.sum_insert ha, EReal.coe_add, ih]

/-- The square root orders the nonnegative reals as they are. -/
theorem sqrt_lt {a b : ℝ} (ha : 0 ≤ a) (hb : 0 ≤ b) : Ideal.sqrt (a : EReal) < Ideal.sqrt (b : EReal) ↔ (a : EReal) < (b : EReal) := by
  show (if a < 0 then ⊥ else (Real.sqrt a : EReal)) < (if b < 0 then ⊥ else (Real.sqrt b : EReal)) ↔ _
  rw [if_neg (not_lt.2 ha), if_neg (not_lt.2 hb), EReal.coe_lt_coe_iff, EReal.coe_lt_coe_iff, Real.sqrt_lt_sqrt_iff ha]

/-- So ranks by the square roots are ranks by the values. -/
theorem rank_sqrt {T : Type} [Fintype T] (v : T → ℝ) (hv : ∀ t, 0 ≤ v t) (g : T → ℕ) (t : T) :
    rank (key (fun t => Ideal.sqrt (v t : EReal)) g) t = rank (key (fun t => (v t : EReal)) g) t := by
  refine rank_congr (fun s t => ?_) t
  have h1 := sqrt_lt (hv s) (hv t)
  have h2 := sqrt_lt (hv t) (hv s)
  rw [key_lt, key_lt]
  rw [h1]
  refine or_congr Iff.rfl (and_congr ⟨fun h => ?_, fun h => by rw [h]⟩ Iff.rfl)
  exact le_antisymm (not_lt.1 fun hc => absurd (h2.2 hc) (by rw [h]; exact lt_irrefl _))
    (not_lt.1 fun hc => absurd (h1.2 hc) (by rw [h]; exact lt_irrefl _))

/-- An insertion depends only on how the inserted element compares with the list's. -/
theorem insertBefore_congr {ι : Type} {B B' : ι → ι → Bool} (a : ι) (l : List ι) (h : ∀ b ∈ l, B b a = B' b a) :
    insertBefore B a l = insertBefore B' a l := by
  induction l with
  | nil => rfl
  | cons b l ih =>
    unfold insertBefore
    rw [h b (List.mem_cons_self ..), ih fun c hc => h c (List.mem_cons_of_mem _ hc)]

/-- A stable sort depends only on whether a later element goes before an earlier one. -/
theorem stableSort_eq {ι : Type} {B B' : ι → ι → Bool} (l : List ι) (h : l.Pairwise fun a b => B b a = B' b a) :
    stableSort B l = stableSort B' l := by
  induction l with
  | nil => rfl
  | cons a l ih =>
    rw [List.pairwise_cons] at h
    unfold stableSort
    rw [ih h.2]
    exact insertBefore_congr a _ fun b hb => h.1 b ((perm_stableSort B' l).mem_iff.1 hb)

/-- A stable sort by the values puts at place `k` the element of rank `k`, equal values ranked by position. -/
theorem rank_sortedFrom {n : ℕ} (f : Fin n → EReal) (B : Fin n → Fin n → Bool) (hB : ∀ s t, B s t = decide (f s < f t))
    (k : Fin n) : rank (key f Fin.val) (sortedFrom B k) = k.val := by
  let B' : Fin n → Fin n → Bool := fun s t => decide (key f Fin.val s < key f Fin.val t)
  have hinj := key_injective f Fin.val_injective (T := Fin n)
  have hB' : StrictTotalBefore B' := ⟨fun a => by simp [B'], fun a b c hab hbc => by
    simp only [B', decide_eq_true_eq] at *; exact hab.trans hbc, fun a b hne => by
    simp only [B', decide_eq_true_eq]; exact lt_or_gt_of_ne fun h => hne (hinj h)⟩
  have hs : sortPositions n B = sortPositions n B' := by
    refine stableSort_eq _ ((List.pairwise_lt_finRange n).imp fun {a b} hab => ?_)
    rw [hB]
    refine decide_eq_decide.2 ?_
    rw [key_lt]
    have : ¬ b.val < a.val := by have := Fin.lt_def.1 hab; omega
    simp [this]
  have hf : sortedFrom B = sortedFrom B' := by
    funext k
    unfold sortedFrom
    rw [List.get_of_eq hs]
    rfl
  rw [hf]
  have hmono : ∀ i j, i < j → key f Fin.val (sortedFrom B' i) < key f Fin.val (sortedFrom B' j) := fun i j hij => by
    have h := sortedFrom_noInversion B' B' (fun a b h => hB'.asymm a b h) (fun _ _ h => h) hB'.negTrans i j hij
    refine lt_of_le_of_ne (not_lt.1 (of_decide_eq_false h)) fun he => ?_
    exact hij.ne (sortedFrom_injective B' (hinj he))
  have hiff : ∀ i j, key f Fin.val (sortedFrom B' i) < key f Fin.val (sortedFrom B' j) ↔ i < j := fun i j =>
    ⟨fun h => by
      by_contra hc
      rcases eq_or_lt_of_le (not_lt.1 hc) with he | hl
      · rw [he] at h; exact lt_irrefl _ h
      · exact lt_asymm h (hmono _ _ hl), hmono i j⟩
  have hb : Function.Bijective (sortedFrom B') := ⟨sortedFrom_injective B', sortedFrom_surjective B'⟩
  unfold rank
  rw [← Fin.card_Iio k]
  symm
  refine Finset.card_bij (fun i _ => sortedFrom B' i) (fun i hi => ?_) (fun i _ j _ h => hb.1 h) fun t ht => ?_
  · simpa [hiff] using hi
  · obtain ⟨i, rfl⟩ := hb.2 t
    exact ⟨i, by simpa [hiff] using ht, rfl⟩

end Cert.Rank

end
-- ==== Proof.Dist.lean ====
/- The kernel's results at the exact values: its distances are the squared distances of the points, so the numbers it
   leaves are those of the sixteen nearest, in order. -/
module

public import proofs.«01_k».proof.Proof.Run
public import proofs.«01_k».proof.Proof.Top
public import proofs.«01_k».proof.Proof.Sort
public import Idealize.ShloMosaic.Lib.Pointwise

@[expose] public section

set_option maxRecDepth 16384

noncomputable section

namespace Cert.KernelIdeal.Dist

open Idealize.ShloMosaic Idealize.ShloMosaic.TcCoe
open Cert.KernelIdeal Cert.KernelIdeal.Gen Cert.KernelIdeal.Knn Cert.KernelIdeal.Run Cert.Rank

/-- The factor of the padded queries. -/
theorem ofBits_neg_two : Ideal.ofBits .f32 (0xC0000000#32 : BitVec 32) = ((-2 : ℝ) : EReal) := by
  simp [Ideal.ofBits, Ideal.ieee]
  rw [← EReal.coe_mul]
  norm_num

/-- A padded reference row times a padded query is the squared distance: the row's entries meet minus twice the
    query's, its own squared length meets 1, and 1 meets the query's. -/
theorem dist_apply (x : Vec Ideal S1x128x64 .f32) (r : Vec Ideal S1x16384x64 .f32) (l q : Fin 128) (s : Fin 16) (g : Fin 8)
   (x' r' : Fin 64 → ℝ) (hx : ∀ d, x (ix3 0 q d) = (x' d : EReal)) (hr : ∀ d, r (ix3 0 ⟨2048 * g.val + (s.val * 128 + l.val), by omega⟩ d) = (r' d : EReal)) : Knn.dist (padQ x) (rowsOf (padR r) g) (ix3 s l q) = ((sqd x' r' : ℝ) : EReal) := by
  pointwise [Knn.dist, padQ, padR, rowsOf]
  simp only [hx, hr, ofBits_neg_two]
  rw [show sqd x' r' = (∑ d, r' d * (-2 * x' d)) + (1 * ∑ d, x' d * x' d) + (∑ d, r' d * r' d) * 1 by
    rw [sqd, one_mul, mul_one, ← Finset.sum_add_distrib, ← Finset.sum_add_distrib]
    exact Finset.sum_congr rfl fun d _ => by ring]
  rw [Fin.sum_univ_add (a := 64) (b := 8), Fin.sum_univ_eight]
  simp only [Fin.val_castAdd, Fin.val_natAdd, Fin.is_lt, ↓reduceDIte]
  generalize (-2 : ℝ) = c
  simp [EReal.coe_add, EReal.coe_mul, coe_sum, add_assoc]

/-- What the kernel leaves for a query at place `k`: the number of the reference row of rank `k` by squared distance,
    then by number, and the square root of its squared distance. -/
theorem out_apply (m : (ℓ : Loc nD τ sig) → Buf (Elt Ideal) ℓ) (c : Dev nD) (x : Fin 2 → Fin 1024 → Fin 64 → ℝ) (r : Fin 2 → Fin 16384 → Fin 64 → ℝ)
    (hx : ∀ b q d, m ((c : Thread nD τ).loc main_arg0) (ix3 b q d : S2x1024x64.Idx) = (x b q d : EReal))
    (hr : ∀ b n d, m ((c : Thread nD τ).loc main_arg1) (ix3 b n d : S2x16384x64.Idx) = (r b n d : EReal))
    (b : Fin 2) (q : Fin 1024) (k : Fin 16) :
    ∃ t : Fin 16384, rank (key (fun n => ((sqd (x b q) (r b n) : ℝ) : EReal)) Fin.val) t = k.val
      ∧ outArrI m c (ix3 b q k : S2x1024x16.Idx) = BitVec.ofNat 32 t.val
      ∧ outArrD m c (ix3 b q k : S2x1024x16.Idx) = Ideal.sqrt ((sqd (x b q) (r b t) : ℝ) : EReal) := by
  have hq : q.val / 128 * 128 + q.val % 128 = q.val := by omega
  obtain ⟨t, h1, h2, h3⟩ := res_apply (qp := padQ (qB m c b ⟨q.val / 128, by omega⟩)) (r := rowsOf (padR (rB m c b)))
    (q := ⟨q.val % 128, by omega⟩) (D := fun n => ((sqd (x b q) (r b n) : ℝ) : EReal)) (fun g s l => by
      refine (dist_apply _ _ l _ s g (x b q) (r b ⟨(16 * g.val + s.val) * 128 + l.val, by omega⟩) (fun d => ?_) fun d => ?_)
      · rw [← hx]
        exact congrArg (fun z => m ((c : Thread nD τ).loc main_arg0) (ix3 b z d : S2x1024x64.Idx)) (Fin.ext hq)
      · rw [← hr]
        exact congrArg (fun z => m ((c : Thread nD τ).loc main_arg1) (ix3 b z d : S2x16384x64.Idx)) (Fin.ext (by show 2048 * g.val + (s.val * 128 + l.val) = (16 * g.val + s.val) * 128 + l.val; omega)))
    (fun _ => EReal.coe_ne_top _) k
  refine ⟨t, h1, h2, h3.trans ?_⟩
  rw [max_eq_left]
  exact EReal.coe_nonneg.2 (sqd_nonneg _ _)

end Cert.KernelIdeal.Dist

end
-- ==== Proof.Reference.lean ====
/- The reference's results at the exact values: a stable sort of the distances, so the numbers it leaves are those of the
   sixteen nearest, in order. -/
module

public import proofs.«01_k».proof.Proof.Gen.ReferenceIdeal.Run
public import proofs.«01_k».proof.Proof.Sort
public import Idealize.ShloMosaic.Lib.Pointwise
public import Idealize.ShloMosaic.Lib.ReduceAll

@[expose] public section

set_option maxRecDepth 16384

noncomputable section

namespace Cert.ReferenceIdeal.Nearest

open Idealize.ShloMosaic Idealize.ShloMosaic.TcCoe
open Cert.ReferenceIdeal Cert.ReferenceIdeal.Gen Cert.ReferenceIdeal.Value Cert.Rank

/-- The sort's comparison is the order of the values. -/
theorem cmp_eq (l r : Ideal .f32 × BitVec 32) : (comparator_f32_i32_d2 l r == 1#1) = decide (l.1 < r.1) := by
  obtain ⟨l, i⟩ := l
  obtain ⟨r, j⟩ := r
  simp [comparator_f32_i32_d2]
  have h1 : ∀ x y : EReal, Scalar.select (FloatOps.cmpf (F := Ideal) (φ := .f32) .une x x) y x = x := fun x y => by
    simp [Scalar.select, FloatOps.cmpf, Ideal.cmp]
  have h2 : ∀ x : EReal, Scalar.select (FloatOps.cmpf (F := Ideal) (φ := .f32) .oeq x 0) 0 x = x := fun x => by
    by_cases h : x = 0 <;> simp [h, Scalar.select, FloatOps.cmpf, Ideal.cmp]
  erw [h2, h2, h1, h1]
  show (BitVec.ofBool (decide (l < r)) == 1#1) = _
  by_cases h : l < r <;> simp [h]

/-- The reference's distances. -/
def distArr (x : FVec Ideal S2x1024x64 .f32) (r : FVec Ideal S2x16384x64 .f32) : FVec Ideal S2x1024x16384 .f32 :=
  Host.sqrt (Host.reduceAdd (mulf (subf (broadcastInDim S2x1024x16384x64 ![0, 1, 2, 3] bcast_S2x1024x1x64_S2x1024x16384x64_0_1_2_3 (broadcastInDim S2x1024x1x64 ![0, 1, 3] bcast_S2x1024x64_S2x1024x1x64_0_1_3 x)) (broadcastInDim S2x1024x16384x64 ![0, 1, 2, 3] bcast_S2x1x16384x64_S2x1024x16384x64_0_1_2_3 (broadcastInDim S2x1x16384x64 ![0, 2, 3] bcast_S2x16384x64_S2x1x16384x64_0_2_3 r))) (subf (broadcastInDim S2x1024x16384x64 ![0, 1, 2, 3] bcast_S2x1024x1x64_S2x1024x16384x64_0_1_2_3 (broadcastInDim S2x1024x1x64 ![0, 1, 3] bcast_S2x1024x64_S2x1024x1x64_0_1_3 x)) (broadcastInDim S2x1024x16384x64 ![0, 1, 2, 3] bcast_S2x1x16384x64_S2x1024x16384x64_0_1_2_3 (broadcastInDim S2x1x16384x64 ![0, 2, 3] bcast_S2x16384x64_S2x1x16384x64_0_2_3 r)))) (constant S_ .f32 0x00000000#32) reducesTo_S2x1024x16384x64_S2x1024x16384_d3 h_S_)

/-- A distance is the square root of the sum of the squared differences. -/
theorem distArr_apply (x : FVec Ideal S2x1024x64 .f32) (r : FVec Ideal S2x16384x64 .f32) (b q n) :
   distArr x r (ix3 b q n) = Ideal.sqrt (∑ d, (x (ix3 b q d) - r (ix3 b n d)) * (x (ix3 b q d) - r (ix3 b n d))) := by
  pointwise [distArr]

/-- The sorted positions. -/
def idxArr (D : FVec Ideal S2x1024x16384 .f32) : IVec S2x1024x16384 32 :=
  (Host.sort2 S2x1024x16384 2 comparator_f32_i32_d2 D (broadcastInDim S2x1024x16384 ![1, 2] bcast_S1024x16384_S2x1024x16384_1_2 (iotaInDim S1024x16384 32 1))).2

/-- A place along the last axis. -/
theorem along_ix3 (b : Fin 2) (q : Fin 1024) (k t : Fin 16384) : Shape.Idx.along (s := S2x1024x16384) (ix3 b q k) 2 t = ix3 b q t := by
  funext a
  match a with
  | ⟨0, _⟩ => rfl
  | ⟨1, _⟩ => rfl
  | ⟨2, _⟩ => rfl

/-- A sort along the last axis, read at a place. -/
theorem sort2_apply {α β : Type} (cmp : α × β → α × β → BitVec 1) (x : S2x1024x16384.Idx → α) (y : S2x1024x16384.Idx → β)
    (b : Fin 2) (q : Fin 1024) (k : Fin 16384) : (Host.sort2 S2x1024x16384 2 cmp x y).2 (ix3 b q k)
      = y (ix3 b q (sortedFrom (fun s t => cmp (x (ix3 b q s), y (ix3 b q s)) (x (ix3 b q t), y (ix3 b q t)) == 1#1) k)) := by
  unfold Host.sort2
  rw [dif_pos (by decide)]
  have e : (fun t => Shape.Idx.along (s := S2x1024x16384) (ix3 b q k) ⟨2, by decide⟩ t) = fun t => ix3 b q t :=
    funext (along_ix3 b q k)
  exact congrArg (fun f : Fin 16384 → S2x1024x16384.Idx => y (f (sortedFrom (fun s t => cmp (x (f s), y (f s)) (x (f t), y (f t)) == 1#1) k))) e

/-- A sorted position. -/
theorem idxArr_apply (D : FVec Ideal S2x1024x16384 .f32) (b : Fin 2) (q : Fin 1024) (k : Fin 16384) :
   idxArr D (ix3 b q k) = BitVec.ofNat 32 (sortedFrom (fun s t => decide (D (ix3 b q s) < D (ix3 b q t))) k).val := by
  unfold idxArr
  rw [sort2_apply]
  simp only [cmp_eq]
  pointwise

/-- A gather along the last axis, read where its index is in range. -/
theorem gather_apply (D : FVec Ideal S2x1024x16384 .f32) (I : IVec S2x1024x16384x1 32) (b : Fin 2) (q : Fin 1024) (k t : Fin 16384)
    (h : I (ix4 b q k 0) = BitVec.ofNat 32 t.val) :
    Host.gather gather_S2x1024x16384_S2x1024x16384x1_S2x1024x16384_n_2_01_01_2_3_111 D I (ix3 b q k) = D (ix3 b q t) := by
  unfold Host.gather
  congr 1
  funext a
  refine Fin.ext ?_
  have hsi : ∀ c, GatherDims.siIdx gather_S2x1024x16384_S2x1024x16384x1_S2x1024x16384_n_2_01_01_2_3_111 (ix3 b q k) c = ix4 b q k 0 := by
    intro c
    funext a
    refine Fin.ext ?_
    match a with
    | ⟨0, _⟩ => rfl
    | ⟨1, _⟩ => rfl
    | ⟨2, _⟩ => rfl
    | ⟨3, _⟩ => have := c.isLt; exact Nat.lt_one_iff.1 c.isLt
  show GatherDims.start gather_S2x1024x16384_S2x1024x16384x1_S2x1024x16384_n_2_01_01_2_3_111 (ix3 b q k) I a +
    GatherDims.batchCoord gather_S2x1024x16384_S2x1024x16384x1_S2x1024x16384_n_2_01_01_2_3_111 (ix3 b q k) a +
    GatherDims.offCoord gather_S2x1024x16384_S2x1024x16384x1_S2x1024x16384_n_2_01_01_2_3_111 (ix3 b q k) a = _
  unfold GatherDims.start
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [dif_neg (by decide)]; simp only [GatherDims.batchCoord, GatherDims.offCoord, zero_add]; rfl
  · rw [dif_neg (by decide)]; simp only [GatherDims.batchCoord, GatherDims.offCoord, zero_add]; rfl
  · rw [dif_pos (by decide), hsi, h, BitVec.toInt_eq_toNat_of_lt (by rw [BitVec.toNat_ofNat]; omega), BitVec.toNat_ofNat]
    show min (t.val % 2 ^ 32) 16383 + 0 + 0 = t.val
    omega

/-- The positions with the negative ones wrapped. -/
def wrapArr (I : IVec S2x1024x16384 32) : IVec S2x1024x16384x1 32 :=
  shapeCast _ (select (cmpi .slt I (broadcastInDim S2x1024x16384 ![] bcast_S_S2x1024x16384 (constantI S_ 32 0#32))) (addi I (broadcastInDim S2x1024x16384 ![] bcast_S_S2x1024x16384 (constantI S_ 32 16384#32))) I) shapeCasts_S2x1024x16384_S2x1024x16384x1

/-- A position's word is not negative. -/
theorem toInt_ofNat (t : Fin 16384) : (BitVec.ofNat 32 t.val).toInt = (t.val : ℤ) := by
  have h : (BitVec.ofNat 32 t.val).toNat = t.val := by rw [BitVec.toNat_ofNat]; omega
  rw [BitVec.toInt_eq_toNat_of_lt (by rw [h]; omega), h]

/-- No position is negative, so wrapping changes none. -/
theorem wrapArr_apply (I : IVec S2x1024x16384 32) (b : Fin 2) (q : Fin 1024) (k t : Fin 16384) (h : I (ix3 b q k) = BitVec.ofNat 32 t.val) :
    wrapArr I (ix4 b q k 0) = BitVec.ofNat 32 t.val := by
  pointwise [wrapArr]
  simp only [h]
  have hn : ¬ (BitVec.ofNat 32 t.val).toInt < (0#32 : BitVec 32).toInt := by
    rw [toInt_ofNat]
    simp
  show Scalar.select (BitVec.ofBool (decide ((BitVec.ofNat 32 t.val).toInt < (0#32 : BitVec 32).toInt))) _ _ = _
  rw [decide_eq_false hn]
  rfl

/-- Which positions are in range. -/
def maskArr (W : IVec S2x1024x16384x1 32) : IVec S2x1024x16384 1 :=
  Host.reduce IntOp.andi (andi (cmpi .sge W (broadcastInDim S2x1024x16384x1 ![] bcast_S_S2x1024x16384x1 (constantI S_ 32 0#32))) (cmpi .sle W (broadcastInDim S2x1024x16384x1 ![0, 1, 2, 3] bcast_S1x1x1x1_S2x1024x16384x1_0_1_2_3 (broadcastInDim S1x1x1x1 ![3] bcast_S1_S1x1x1x1_3 (constantI S1 32 16383#32))))) (constantI S_ 1 1#1) reducesTo_S2x1024x16384x1_S2x1024x16384_d3 h_S_

/-- All are. -/
theorem maskArr_eq (W : IVec S2x1024x16384x1 32) (h : ∀ b q k, ∃ t : Fin 16384, W (ix4 b q k 0) = BitVec.ofNat 32 t.val) (j) : maskArr W j = 1#1 := by
  refine Host.reduce_andi_one _ _ _ _ _ rfl fun i => ?_
  obtain ⟨t, ht⟩ := h (i 0) (i 1) (i 2)
  have hi : i = ix4 (i 0) (i 1) (i 2) 0 := by
    funext a
    match a with
    | ⟨0, _⟩ => rfl
    | ⟨1, _⟩ => rfl
    | ⟨2, _⟩ => rfl
    | ⟨3, _⟩ => exact Fin.ext (Nat.lt_one_iff.1 (i 3).isLt)
  generalize i 0 = b at *
  generalize i 1 = q at *
  generalize i 2 = k at *
  subst hi
  pointwise
  simp only [ht]
  have h1 : (0#32 : BitVec 32).toInt ≤ (BitVec.ofNat 32 t.val).toInt := by
    rw [toInt_ofNat]
    simp
  have h2 : (BitVec.ofNat 32 t.val).toInt ≤ (16383#32 : BitVec 32).toInt := by
    rw [toInt_ofNat, show (16383#32 : BitVec 32).toInt = 16383 by decide]
    omega
  show IntOp.andi (BitVec.ofBool (decide ((0#32 : BitVec 32).toInt ≤ (BitVec.ofNat 32 t.val).toInt))) (BitVec.ofBool (decide ((BitVec.ofNat 32 t.val).toInt ≤ (16383#32 : BitVec 32).toInt))) = 1#1
  rw [decide_eq_true h1, decide_eq_true h2]
  rfl

/-- The distances at the positions. -/
def takeArr (D : FVec Ideal S2x1024x16384 .f32) (W : IVec S2x1024x16384x1 32) : FVec Ideal S2x1024x16384 .f32 :=
  select (maskArr W) (Host.gather gather_S2x1024x16384_S2x1024x16384x1_S2x1024x16384_n_2_01_01_2_3_111 D W) (broadcastInDim S2x1024x16384 ![] bcast_S_S2x1024x16384 (constant S_ .f32 0x7FC00000#32))

/-- A choice whose condition holds. -/
theorem select_one {s : Shape} (c : IVec s 1) (x y : FVec Ideal s .f32) (i : s.Idx) (h : c i = 1#1) : select c x y i = x i := by
  show Scalar.select (c i) (x i) (y i) = _
  rw [h]
  rfl

/-- The distance at a position. -/
theorem takeArr_apply (D : FVec Ideal S2x1024x16384 .f32) (W : IVec S2x1024x16384x1 32) (b : Fin 2) (q : Fin 1024) (k t : Fin 16384)
    (h : ∀ b q k, ∃ t : Fin 16384, W (ix4 b q k 0) = BitVec.ofNat 32 t.val) (ht : W (ix4 b q k 0) = BitVec.ofNat 32 t.val) :
    takeArr D W (ix3 b q k) = D (ix3 b q t) := by
  unfold takeArr
  rw [select_one _ _ _ _ (maskArr_eq W h _), gather_apply D W b q k t ht]

/-- The second result, in these terms. -/
theorem res_eq (m : (ℓ : Loc nD τ sig) → Buf (Elt Ideal) ℓ) (c : Dev nD) : res_main_v11 m c =
    extractStridedSlice S2x1024x16 ![0, 0, 0] (takeArr (distArr (m ((c.tc : Thread nD τ).loc main_arg0)) (m ((c.tc : Thread nD τ).loc main_arg1)))
      (wrapArr (idxArr (distArr (m ((c.tc : Thread nD τ).loc main_arg0)) (m ((c.tc : Thread nD τ).loc main_arg1)))))) slices_S2x1024x16384_S2x1024x16_0_0_0 := by
  unfold res_main_v11 takeArr wrapArr maskArr idxArr distArr
  rfl

/-- The first sixteen places. -/
theorem slice_apply {α : Type} (x : S2x1024x16384.Idx → α) (b : Fin 2) (q : Fin 1024) (k : Fin 16) :
    extractStridedSlice S2x1024x16 ![0, 0, 0] x slices_S2x1024x16384_S2x1024x16_0_0_0 (ix3 b q k) = x (ix3 b q ⟨k.val, by omega⟩) := by
  pointwise

/-- What the reference leaves for a query at place `k`: the number of the reference row of rank `k` by squared distance,
    then by number, and the square root of its squared distance. -/
theorem ref_apply (X : FVec Ideal S2x1024x64 .f32) (R : FVec Ideal S2x16384x64 .f32) (x : Fin 2 → Fin 1024 → Fin 64 → ℝ) (r : Fin 2 → Fin 16384 → Fin 64 → ℝ)
    (hx : ∀ b q d, X (ix3 b q d) = (x b q d : EReal)) (hr : ∀ b n d, R (ix3 b n d) = (r b n d : EReal))
    (b : Fin 2) (q : Fin 1024) (k : Fin 16) :
    ∃ t : Fin 16384, rank (key (fun n => ((sqd (x b q) (r b n) : ℝ) : EReal)) Fin.val) t = k.val
      ∧ extractStridedSlice S2x1024x16 ![0, 0, 0] (idxArr (distArr X R)) slices_S2x1024x16384_S2x1024x16_0_0_0 (ix3 b q k) = BitVec.ofNat 32 t.val
      ∧ extractStridedSlice S2x1024x16 ![0, 0, 0] (takeArr (distArr X R) (wrapArr (idxArr (distArr X R)))) slices_S2x1024x16384_S2x1024x16_0_0_0 (ix3 b q k)
        = Ideal.sqrt ((sqd (x b q) (r b t) : ℝ) : EReal) := by
  have hD : ∀ n, distArr X R (ix3 b q n) = Ideal.sqrt ((sqd (x b q) (r b n) : ℝ) : EReal) := fun n => by
    rw [distArr_apply]
    unfold sqd
    simp only [hx, hr, coe_sum, EReal.coe_mul, EReal.coe_sub]
  have hI : ∀ b q k, ∃ t : Fin 16384, wrapArr (idxArr (distArr X R)) (ix4 b q k 0) = BitVec.ofNat 32 t.val := fun b q k =>
    ⟨_, wrapArr_apply _ b q k _ (idxArr_apply _ b q k)⟩
  refine ⟨sortedFrom (fun s t => decide (distArr X R (ix3 b q s) < distArr X R (ix3 b q t))) ⟨k.val, by omega⟩, ?_, ?_, ?_⟩
  · rw [← rank_sqrt _ fun n => sqd_nonneg _ _]
    exact rank_sortedFrom (fun n => Ideal.sqrt ((sqd (x b q) (r b n) : ℝ) : EReal)) _ (fun s t => by rw [hD, hD]) ⟨k.val, by omega⟩
  · rw [slice_apply, idxArr_apply]
  · rw [slice_apply, takeArr_apply _ _ b q _ _ hI (wrapArr_apply _ b q _ _ (idxArr_apply _ b q _)), hD]

end Cert.ReferenceIdeal.Nearest

end
-- ==== Proof.Finite.lean ====
/- What the precondition says of the exact values: every entry of both arrays is a real number. -/
module

public import proofs.«01_k».proof.Pre_all_finite
public import Idealize.ShloMosaic.Lib.Pointwise
public import Idealize.ShloMosaic.Lib.ReduceAll

@[expose] public section

set_option maxRecDepth 16384

noncomputable section

namespace Cert.Pre_all_finite

open Idealize.ShloMosaic

/-- The precondition's side conditions. -/
instance facts : Facts := ⟨by decide, by decide, by decide, by decide, by decide⟩

/-- The pattern it compares with is `+∞`. -/
theorem ofBits_inf : Ideal.ofBits .f32 (0x7F800000#32 : BitVec 32) = (⊤ : EReal) := by
  simp [Ideal.ofBits, Ideal.ieee]

/-- A value whose magnitude is below `+∞` is a real number. -/
theorem real_of_abs_lt {x : Ideal .f32} (h : FloatOps.cmpf .olt (FloatOps.absf x) (FloatOps.ofBits .f32 0x7F800000#32) = 1#1) : ∃ r : ℝ, x = (r : EReal) := by
  have h : BitVec.ofBool (decide (max x (-x) < Ideal.ofBits .f32 (0x7F800000#32 : BitVec 32))) = 1#1 := h
  rw [ofBits_inf] at h
  have h : max x (-x) < (⊤ : EReal) := by
    by_contra hc
    rw [decide_eq_false hc] at h
    exact absurd h (by decide)
  obtain ⟨h1, h2⟩ := max_lt_iff.1 h
  refine ⟨EReal.toReal x, (EReal.coe_toReal h1.ne fun e => ?_).symm⟩
  rw [e] at h2
  exact absurd h2 (by simp)

/-- Under the precondition every entry of both arrays is a real number. -/
theorem reals {x : FVec Ideal S2x1024x64 .f32} {y : FVec Ideal S2x16384x64 .f32} (h : fn x y = fun _ => 1#1) :
    (∀ i, ∃ r : ℝ, x i = (r : EReal)) ∧ ∀ i, ∃ r : ℝ, y i = (r : EReal) := by
  have h := congrFun h ix0
  unfold fn at h
  obtain ⟨hx, hy⟩ := IntOp.andi_eq_one.1 h
  haveI : Subsingleton S_.Idx := ⟨fun a b => funext fun i => nomatch i⟩
  exact ⟨fun i => real_of_abs_lt (Host.reduce_andi_all _ _ _ _ _ hx i), fun i => real_of_abs_lt (Host.reduce_andi_all _ _ _ _ _ hy i)⟩

end Cert.Pre_all_finite

end
-- ==== Proof.lean ====
/- The proof of the certificate's claim. -/
module

public import proofs.«01_k».proof.Defs
public import proofs.«01_k».proof.Proof.KernelFrame
public import proofs.«01_k».proof.Proof.Dist
public import proofs.«01_k».proof.Proof.Reference
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem

/-- The reference's frame: its run leaves both arguments unchanged, and it has no semaphores at all. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => ⟨(h c).2.2.1, (h c).2.2.2⟩, sem_eq_zero_of_no_sems (by decide) r.2⟩)
    (Cert.ReferenceIdeal.Value.run (F := Ideal) m g)

/-- The kernel's frame at the exact values: its run leaves both arguments unchanged and every semaphore at zero. -/
theorem kernel_frame (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun r h => ⟨fun c => ⟨(h.1 c).2.2.1, (h.1 c).2.2.2⟩, h.2⟩) (Cert.KernelIdeal.Run.run m g)

open Cert.Rank Cert.ReferenceIdeal Cert.ReferenceIdeal.Gen Cert.ReferenceIdeal.Nearest in
/-- On finite arguments the two programs' results are equal: both leave, at each place, the row of that rank, and a rank
    belongs to one row. -/
theorem results_eq (m : (ℓ : Loc Cert.KernelIdeal.nD Cert.KernelIdeal.τ Cert.KernelIdeal.sig) → Buf (Elt Ideal) ℓ)
    (hpre : Cert.Pre_KernelIdeal_all_finite m) (c : Dev Cert.KernelIdeal.nD) (X : FVec Ideal S2x1024x64 .f32) (R : FVec Ideal S2x16384x64 .f32)
    (hX : X = m ((c.tc : Thread Cert.KernelIdeal.nD Cert.KernelIdeal.τ).loc Cert.KernelIdeal.main_arg0))
    (hR : R = m ((c.tc : Thread Cert.KernelIdeal.nD Cert.KernelIdeal.τ).loc Cert.KernelIdeal.main_arg1)) :
    extractStridedSlice S2x1024x16 ![0, 0, 0] (idxArr (distArr X R)) slices_S2x1024x16384_S2x1024x16_0_0_0 = Cert.KernelIdeal.Run.outArrI m c
      ∧ extractStridedSlice S2x1024x16 ![0, 0, 0] (takeArr (distArr X R) (wrapArr (idxArr (distArr X R)))) slices_S2x1024x16384_S2x1024x16_0_0_0
        = Cert.KernelIdeal.Run.outArrD m c := by
  obtain ⟨hx, hr⟩ := Cert.Pre_all_finite.reals (hpre c)
  choose x hx using hx
  choose r hr using hr
  have key (b : Fin 2) (q : Fin 1024) (k : Fin 16) :
      extractStridedSlice S2x1024x16 ![0, 0, 0] (idxArr (distArr X R)) slices_S2x1024x16384_S2x1024x16_0_0_0 (ix3 b q k)
          = Cert.KernelIdeal.Run.outArrI m c (ix3 b q k : S2x1024x16.Idx)
        ∧ extractStridedSlice S2x1024x16 ![0, 0, 0] (takeArr (distArr X R) (wrapArr (idxArr (distArr X R)))) slices_S2x1024x16384_S2x1024x16_0_0_0 (ix3 b q k)
          = Cert.KernelIdeal.Run.outArrD m c (ix3 b q k : S2x1024x16.Idx) := by
    obtain ⟨t, h1, h2, h3⟩ := Cert.KernelIdeal.Dist.out_apply m c (fun b q d => x (ix3 b q d)) (fun b n d => r (ix3 b n d))
      (fun b q d => hx _) (fun b n d => hr _) b q k
    obtain ⟨t', h1', h2', h3'⟩ := ref_apply X R (fun b q d => x (ix3 b q d)) (fun b n d => r (ix3 b n d))
      (fun b q d => (congrFun hX _).trans (hx _)) (fun b n d => (congrFun hR _).trans (hr _)) b q k
    obtain rfl := rank_injective (key_injective _ Fin.val_injective) (h1.trans h1'.symm)
    exact ⟨h2'.trans h2.symm, h3'.trans h3.symm⟩
  have hj (j : S2x1024x16.Idx) : j = ix3 (j 0) (j 1) (j 2) := by
    funext a
    match a with
    | ⟨0, _⟩ => rfl
    | ⟨1, _⟩ => rfl
    | ⟨2, _⟩ => rfl
  constructor
  · funext j
    rw [hj j]
    exact (key _ _ _).1
  · funext j
    rw [hj j]
    exact (key _ _ _).2

/-- On finite arguments the kernel and the reference leave the same results. -/
theorem algebraic : Cert.algebraic_KernelIdeal_ReferenceIdeal_pre_all_finite := fun m g m' g' hpre harg =>
  ⟨Cert.KernelIdeal.Run.outArrI m, Cert.KernelIdeal.Run.outArrD m,
    (θ_run _ _ _).mono (fun r h c => h.1 c) (Cert.KernelIdeal.Run.run m g),
    (θ_run _ _ _).mono (fun r h c =>
      have e := results_eq m hpre c _ _ (harg c).1 (harg c).2
      ⟨(h c).1.trans e.1, (h c).2.1.trans ((Cert.ReferenceIdeal.Nearest.res_eq m' c).trans e.2), (h c).2.2.1, (h c).2.2.2⟩)
      (Cert.ReferenceIdeal.Value.run (F := Ideal) m' g')⟩

/-- The claim. -/
theorem claim : Cert.Claim := ⟨Cert.Kernel.Gen.facts, Cert.KernelIdeal.Gen.facts, Cert.ReferenceIdeal.Gen.facts, Cert.Pre_all_finite.facts,
  fun m ρ _ => Cert.Kernel.Quiet.frame m ρ, fun m ρ _ => kernel_frame m ρ, fun m ρ _ => kernel_frame m ρ,
  fun m ρ _ => reference_frame m ρ, fun m ρ _ => reference_frame m ρ, trivial, algebraic⟩

end Cert.Proof

end
